-- ==== Defs.lean ====
def Pre_Kernel [hPre_is_swap_Kernel : Cert.Pre_is_swap_Kernel.Facts] (m : (ℓ : Loc Cert.Kernel.nD Cert.Kernel.τ Cert.Kernel.sig) → Buf (Elt Bits) ℓ) : Prop :=
  ∀ c : Dev Cert.Kernel.nD,
    (Cert.Pre_is_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_identity_Kernel [hPre_is_identity_Kernel : Cert.Pre_is_identity_Kernel.Facts] (m : (ℓ : Loc Cert.Kernel.nD Cert.Kernel.τ Cert.Kernel.sig) → Buf (Elt Bits) ℓ) : Prop :=
  ∀ c : Dev Cert.Kernel.nD,
    (Cert.Pre_is_identity_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_is_swap_Kernel : Cert.Pre_is_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_identity_Kernel [hPre_is_identity_Kernel : Cert.Pre_is_identity_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_identity_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_swap_ReferenceIdeal [hPre_is_swap_ReferenceIdeal : Cert.Pre_is_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_identity_ReferenceIdeal [hPre_is_identity_ReferenceIdeal : Cert.Pre_is_identity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_identity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_within_range [hPre_within_range : Cert.Pre_within_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_is_swap_Kernel : Cert.Pre_is_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_identity_Kernel [hKernel : Cert.Kernel.Facts] [hPre_is_identity_Kernel : Cert.Pre_is_identity_Kernel.Facts] : Prop :=
  ∀ (m : (ℓ : Loc Cert.Kernel.nD Cert.Kernel.τ Cert.Kernel.sig) → Buf (Elt Bits) ℓ) (g : Dev Cert.Kernel.nD → PrngReg), Pre_Kernel_is_identity_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_identity_Kernel [hKernelIdeal : Cert.KernelIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_identity_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_swap_ReferenceIdeal [hReferenceIdeal : Cert.ReferenceIdeal.Facts] [hPre_is_swap_ReferenceIdeal : Cert.Pre_is_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_identity_ReferenceIdeal [hReferenceIdeal : Cert.ReferenceIdeal.Facts] [hPre_is_identity_ReferenceIdeal : Cert.Pre_is_identity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_identity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_range [hReferenceIdeal : Cert.ReferenceIdeal.Facts] [hPre_within_range : Cert.Pre_within_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_is_swap_Kernel : Cert.Pre_is_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_identity_Kernel [hKernelIdeal : Cert.KernelIdeal.Facts] [hReferenceIdeal : Cert.ReferenceIdeal.Facts] [hPre_is_identity_Kernel : Cert.Pre_is_identity_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_identity_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def holds_ReferenceIdeal_near_gather_pre_within_range [hReferenceIdeal : Cert.ReferenceIdeal.Facts] [hPre_within_range : Cert.Pre_within_range.Facts] [hPost_near_gather : Cert.Post_near_gather.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_range m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ (Cert.Post_near_gather.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (r.2.mem ((c.tc : Thread Cert.ReferenceIdeal.nD Cert.ReferenceIdeal.τ).loc Cert.ReferenceIdeal.main_v18))) = (fun _ => 1#1))

def Claim : Prop :=
  ∃ (hKernel : Cert.Kernel.Facts) (hKernelIdeal : Cert.KernelIdeal.Facts) (hReferenceIdeal : Cert.ReferenceIdeal.Facts) (hPre_is_swap_Kernel : Cert.Pre_is_swap_Kernel.Facts) (hPre_is_identity_Kernel : Cert.Pre_is_identity_Kernel.Facts) (hPre_is_swap_ReferenceIdeal : Cert.Pre_is_swap_ReferenceIdeal.Facts) (hPre_is_identity_ReferenceIdeal : Cert.Pre_is_identity_ReferenceIdeal.Facts) (hPre_within_range : Cert.Pre_within_range.Facts) (hPost_near_gather : Cert.Post_near_gather.Facts),
    quiescent_Kernel (hKernel := hKernel) (hPre_is_swap_Kernel := hPre_is_swap_Kernel)
    ∧ quiescent_Kernel_pre_is_identity_Kernel (hKernel := hKernel) (hPre_is_identity_Kernel := hPre_is_identity_Kernel)
    ∧ quiescent_KernelIdeal (hKernelIdeal := hKernelIdeal) (hPre_is_swap_Kernel := hPre_is_swap_Kernel)
    ∧ quiescent_KernelIdeal_pre_is_identity_Kernel (hKernelIdeal := hKernelIdeal) (hPre_is_identity_Kernel := hPre_is_identity_Kernel)
    ∧ quiescent_ReferenceIdeal (hReferenceIdeal := hReferenceIdeal)
    ∧ quiescent_ReferenceIdeal_pre_is_swap_ReferenceIdeal (hReferenceIdeal := hReferenceIdeal) (hPre_is_swap_ReferenceIdeal := hPre_is_swap_ReferenceIdeal)
    ∧ quiescent_ReferenceIdeal_pre_is_identity_ReferenceIdeal (hReferenceIdeal := hReferenceIdeal) (hPre_is_identity_ReferenceIdeal := hPre_is_identity_ReferenceIdeal)
    ∧ quiescent_ReferenceIdeal_pre_within_range (hReferenceIdeal := hReferenceIdeal) (hPre_within_range := hPre_within_range)
    ∧ preserves_Kernel_KernelIdeal
    ∧ algebraic_KernelIdeal_ReferenceIdeal (hKernelIdeal := hKernelIdeal) (hReferenceIdeal := hReferenceIdeal) (hPre_is_swap_Kernel := hPre_is_swap_Kernel)
    ∧ algebraic_KernelIdeal_ReferenceIdeal_pre_is_identity_Kernel (hKernelIdeal := hKernelIdeal) (hReferenceIdeal := hReferenceIdeal) (hPre_is_identity_Kernel := hPre_is_identity_Kernel)
    ∧ holds_ReferenceIdeal_near_gather_pre_within_range (hReferenceIdeal := hReferenceIdeal) (hPre_within_range := hPre_within_range) (hPost_near_gather := hPost_near_gather)
-- ==== Post_near_gather.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

class Facts : Prop where
  bitsLt_bf16_f32 : FTy.bits .bf16 < FTy.bits .f32
  bcast_S_S2 : S_.BroadcastsInDim S2 (![] : Fin 0 → Fin S2.rank)
  bcast_S2_S2x1_0 : S2.BroadcastsInDim S2x1 (![0] : Fin 1 → Fin S2x1.rank)
  bcast_S_S2x4096x2048 : S_.BroadcastsInDim S2x4096x2048 (![] : Fin 0 → Fin S2x4096x2048.rank)
  gather_S2x4096x2048_S2x1_S2x4096x2048_12_0_n_n_0_1_140962048_wf : GatherDims.WF S2x4096x2048 S2x1 S2x4096x2048 [1, 2] [0] [] [0] [] 1 ![1, 4096, 2048]

variable [Facts]

def comparator_i32_i32_d0 : BitVec 32 × BitVec 32 → BitVec 32 × BitVec 32 → BitVec 1 :=
  fun l r =>
    let v2 := IntOp.cmpi .slt l.1 r.1
    v2
def gather_S2x4096x2048_S2x1_S2x4096x2048_12_0_n_n_0_1_140962048 : GatherDims S2x4096x2048 S2x1 S2x4096x2048 where
  offsetDims := [1, 2]
  collapsedSliceDims := [0]
  operandBatchingDims := []
  startIndicesBatchingDims := []
  startIndexMap := [0]
  indexVectorDim := 1
  sliceSizes := ![1, 4096, 2048]
  wf := gather_S2x4096x2048_S2x1_S2x4096x2048_12_0_n_n_0_1_140962048_wf
def fn_argsort {F : FTy → Type} [FloatOps F] (arg0 : IVec S2 32) : IVec S2 32 :=
  let v0 : IVec S2 32 := iotaInDim S2 32 0
  let v1_0 : IVec S2 32 := (fun x y => (Host.sort2 S2 0 comparator_i32_i32_d0 x y).1) arg0 v0
  let v1_1 : IVec S2 32 := (fun x y => (Host.sort2 S2 0 comparator_i32_i32_d0 x y).2) arg0 v0
  v1_1

def fn {F : FTy → Type} [FloatOps F] (main_arg0 : FVec F S2x4096x2048 .f32) (main_arg1 : IVec S2 32) (main_arg2 : FVec F S2x4096x2048 .bf16) : IVec S2x4096x2048 1 :=
  let main_v0 : FVec F S2x4096x2048 .f32 := (extf .f32 · bitsLt_bf16_f32) main_arg2
  let main_v1 : IVec S2 32 := fn_argsort (F := F) main_arg1
  let main_c : IVec S_ 32 := constantI S_ 32 0#32
  let main_v2 : IVec S2 32 := broadcastInDim S2 ![] bcast_S_S2 main_c
  let main_v3 : IVec S2 1 := cmpi .slt main_v1 main_v2
  let main_c_0 : IVec S_ 32 := constantI S_ 32 2#32
  let main_v4 : IVec S2 32 := broadcastInDim S2 ![] bcast_S_S2 main_c_0
  let main_v5 : IVec S2 32 := addi main_v1 main_v4
  let main_v6 : IVec S2 32 := select main_v3 main_v5 main_v1
  let main_v7 : IVec S2x1 32 := broadcastInDim S2x1 ![0] bcast_S2_S2x1_0 main_v6
  let main_v8 : FVec F S2x4096x2048 .f32 := (fun x i => Host.gather gather_S2x4096x2048_S2x1_S2x4096x2048_12_0_n_n_0_1_140962048 x i) main_arg0 main_v7
  let main_v9 : FVec F S2x4096x2048 .f32 := subf main_v0 main_v8
  let main_v10 : FVec F S2x4096x2048 .f32 := Host.absf main_v9
  let main_cst : FVec F S_ .f32 := constant S_ .f32 0x3CC193B4#32
  let main_v11 : FVec F S2x4096x2048 .f32 := broadcastInDim S2x4096x2048 ![] bcast_S_S2x4096x2048 main_cst
  let main_v12 : IVec S2x4096x2048 1 := cmpf .ole main_v10 main_v11
  main_v12
-- ==== Pre_is_identity_Kernel.lean ====
abbrev S1x4096x2048 : Shape := ⟨3, ![1, 4096, 2048]⟩
abbrev S2 : Shape := ⟨1, ![2]⟩

class Facts : Prop where

variable [Facts]

def fn {F : FTy → Type} [FloatOps F] (main_arg0 : FVec F S1x4096x2048 .f32) (main_arg1 : IVec S2 32) : IVec S2 1 :=
  let main_v0 : IVec S2 32 := iotaInDim S2 32 0
  let main_v1 : IVec S2 1 := cmpi .eq main_arg1 main_v0
  main_v1
-- ==== Pre_is_identity_ReferenceIdeal.lean ====
abbrev S2x4096x2048 : Shape := ⟨3, ![2, 4096, 2048]⟩
abbrev S2 : Shape := ⟨1, ![2]⟩

class Facts : Prop where

variable [Facts]

def fn {F : FTy → Type} [FloatOps F] (main_arg0 : FVec F S2x4096x2048 .f32) (main_arg1 : IVec S2 32) : IVec S2 1 :=
  let main_v0 : IVec S2 32 := iotaInDim S2 32 0
  let main_v1 : IVec S2 1 := cmpi .eq main_arg1 main_v0
  main_v1
-- ==== Pre_is_swap_Kernel.lean ====
abbrev S1x4096x2048 : Shape := ⟨3, ![1, 4096, 2048]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x4096x2048 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_is_swap_ReferenceIdeal.lean ====
abbrev S2x4096x2048 : Shape := ⟨3, ![2, 4096, 2048]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x4096x2048 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_within_range.lean ====
abbrev S2x4096x2048 : Shape := ⟨3, ![2, 4096, 2048]⟩
abbrev S2 : Shape := ⟨1, ![2]⟩
abbrev S_ : Shape := ⟨0, ![]⟩

class Facts : Prop where
  bcast_S_S2x4096x2048 : S_.BroadcastsInDim S2x4096x2048 (![] : Fin 0 → Fin S2x4096x2048.rank)

variable [Facts]

def fn {F : FTy → Type} [FloatOps F] (main_arg0 : FVec F S2x4096x2048 .f32) (main_arg1 : IVec S2 32) : IVec S2x4096x2048 1 :=
  let main_v0 : FVec F S2x4096x2048 .f32 := Host.absf main_arg0
  let main_cst : FVec F S_ .f32 := constant S_ .f32 0x40C00000#32
  let main_v1 : FVec F S2x4096x2048 .f32 := broadcastInDim S2x4096x2048 ![] bcast_S_S2x4096x2048 main_cst
  let main_v2 : IVec S2x4096x2048 1 := cmpf .ole main_v0 main_v1
  main_v2
-- ==== Kernel.lean ====
abbrev S1x4096x2048 : Shape := ⟨3, ![1, 4096, 2048]⟩
abbrev S2 : Shape := ⟨1, ![2]⟩
abbrev S2x256x2048 : Shape := ⟨3, ![2, 256, 2048]⟩
abbrev S16 : Shape := ⟨1, ![16]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩

abbrev nBuf : Space → Nat
  | .hbm => 3
  | .vmem => 4
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .bf16⟩
  | .local _ .vmem, ⟨0, _⟩ => ⟨S1x4096x2048, .bf16⟩
  | .local _ .vmem, ⟨1, _⟩ => ⟨S2x256x2048, .f32⟩
  | .local _ .vmem, ⟨2, _⟩ => ⟨S1x4096x2048, .i8⟩
  | .local _ .vmem, ⟨3, _⟩ => ⟨S1x4096x2048, .i8⟩
  | .local _ .smem, ⟨0, _⟩ => ⟨S2, .i32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : Index := Scalar.indexCast v8
  ![v9.toNat]
def k0_dev1 (d0 : Dev nD) (v10 : BitVec 32) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v289 : BitVec 32 := Scalar.muli v2 c4_i32_261
  let v290 : BitVec 32 := Scalar.addi c0_i32_262 v289
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v291 : BitVec 32 := Scalar.muli v5 c2_i32_263
  let v292 : BitVec 32 := Scalar.addi v290 v291
  let c1_i32_264 : BitVec 32 := 1#32
  let v293 : BitVec 32 := Scalar.muli v10 c1_i32_264
  let v294 : BitVec 32 := Scalar.addi v292 v293
  v294.toNat
def k0_cond1 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v13 : BitVec 32 := Scalar.extui v11
  let c0_i32 : BitVec 32 := 0#32
  let v14 : BitVec 1 := Scalar.cmpi .ne v13 c0_i32
  v14

def k0_dev2 (d0 : Dev nD) (v10 : BitVec 32) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v302 : BitVec 32 := Scalar.muli v2 c4_i32_271
  let v303 : BitVec 32 := Scalar.addi c0_i32_272 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_273 : BitVec 32 := 2#32
  let v304 : BitVec 32 := Scalar.muli v5 c2_i32_273
  let v305 : BitVec 32 := Scalar.addi v303 v304
  let c1_i32_274 : BitVec 32 := 1#32
  let v306 : BitVec 32 := Scalar.muli v10 c1_i32_274
  let v307 : BitVec 32 := Scalar.addi v305 v306
  v307.toNat
def k0_cond2 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v33 : BitVec 32 := Scalar.extui v11
  let c0_i32_23 : BitVec 32 := 0#32
  let v34 : BitVec 1 := Scalar.cmpi .ne v33 c0_i32_23
  v34

def k0_dev3 (d0 : Dev nD) (v10 : BitVec 32) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v302 : BitVec 32 := Scalar.muli v2 c4_i32_269
  let v303 : BitVec 32 := Scalar.addi c0_i32_270 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v304 : BitVec 32 := Scalar.muli v5 c2_i32_271
  let v305 : BitVec 32 := Scalar.addi v303 v304
  let c1_i32_272 : BitVec 32 := 1#32
  let v306 : BitVec 32 := Scalar.muli v10 c1_i32_272
  let v307 : BitVec 32 := Scalar.addi v305 v306
  v307.toNat
def k0_cond4 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v50 : BitVec 32 := Scalar.extui v11
  let c0_i32_38 : BitVec 32 := 0#32
  let v51 : BitVec 1 := Scalar.cmpi .ne v50 c0_i32_38
  v51

def k0_dev4 (d0 : Dev nD) (v10 : BitVec 32) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v302 : BitVec 32 := Scalar.muli v2 c4_i32_270
  let v303 : BitVec 32 := Scalar.addi c0_i32_271 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_272 : BitVec 32 := 2#32
  let v304 : BitVec 32 := Scalar.muli v5 c2_i32_272
  let v305 : BitVec 32 := Scalar.addi v303 v304
  let c1_i32_273 : BitVec 32 := 1#32
  let v306 : BitVec 32 := Scalar.muli v10 c1_i32_273
  let v307 : BitVec 32 := Scalar.addi v305 v306
  v307.toNat
def k0_cond6 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v67 : BitVec 32 := Scalar.extui v11
  let c0_i32_54 : BitVec 32 := 0#32
  let v68 : BitVec 1 := Scalar.cmpi .ne v67 c0_i32_54
  v68

def k0_dev5 (d0 : Dev nD) (v10 : BitVec 32) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v302 : BitVec 32 := Scalar.muli v2 c4_i32_268
  let v303 : BitVec 32 := Scalar.addi c0_i32_269 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v304 : BitVec 32 := Scalar.muli v5 c2_i32_270
  let v305 : BitVec 32 := Scalar.addi v303 v304
  let c1_i32_271 : BitVec 32 := 1#32
  let v306 : BitVec 32 := Scalar.muli v10 c1_i32_271
  let v307 : BitVec 32 := Scalar.addi v305 v306
  v307.toNat
def k0_cond8 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v84 : BitVec 32 := Scalar.extui v11
  let c0_i32_70 : BitVec 32 := 0#32
  let v85 : BitVec 1 := Scalar.cmpi .ne v84 c0_i32_70
  v85

def k0_dev6 (d0 : Dev nD) (v10 : BitVec 32) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v302 : BitVec 32 := Scalar.muli v2 c4_i32_270
  let v303 : BitVec 32 := Scalar.addi c0_i32_271 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_272 : BitVec 32 := 2#32
  let v304 : BitVec 32 := Scalar.muli v5 c2_i32_272
  let v305 : BitVec 32 := Scalar.addi v303 v304
  let c1_i32_273 : BitVec 32 := 1#32
  let v306 : BitVec 32 := Scalar.muli v10 c1_i32_273
  let v307 : BitVec 32 := Scalar.addi v305 v306
  v307.toNat
def k0_cond10 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v101 : BitVec 32 := Scalar.extui v11
  let c0_i32_86 : BitVec 32 := 0#32
  let v102 : BitVec 1 := Scalar.cmpi .ne v101 c0_i32_86
  v102

def k0_dev7 (d0 : Dev nD) (v10 : BitVec 32) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v302 : BitVec 32 := Scalar.muli v2 c4_i32_268
  let v303 : BitVec 32 := Scalar.addi c0_i32_269 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v304 : BitVec 32 := Scalar.muli v5 c2_i32_270
  let v305 : BitVec 32 := Scalar.addi v303 v304
  let c1_i32_271 : BitVec 32 := 1#32
  let v306 : BitVec 32 := Scalar.muli v10 c1_i32_271
  let v307 : BitVec 32 := Scalar.addi v305 v306
  v307.toNat
def k0_cond12 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v118 : BitVec 32 := Scalar.extui v11
  let c0_i32_102 : BitVec 32 := 0#32
  let v119 : BitVec 1 := Scalar.cmpi .ne v118 c0_i32_102
  v119

def k0_dev8 (d0 : Dev nD) (v10 : BitVec 32) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v302 : BitVec 32 := Scalar.muli v2 c4_i32_269
  let v303 : BitVec 32 := Scalar.addi c0_i32_270 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v304 : BitVec 32 := Scalar.muli v5 c2_i32_271
  let v305 : BitVec 32 := Scalar.addi v303 v304
  let c1_i32_272 : BitVec 32 := 1#32
  let v306 : BitVec 32 := Scalar.muli v10 c1_i32_272
  let v307 : BitVec 32 := Scalar.addi v305 v306
  v307.toNat
def k0_cond14 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v135 : BitVec 32 := Scalar.extui v11
  let c0_i32_118 : BitVec 32 := 0#32
  let v136 : BitVec 1 := Scalar.cmpi .ne v135 c0_i32_118
  v136

def k0_dev9 (d0 : Dev nD) (v10 : BitVec 32) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v302 : BitVec 32 := Scalar.muli v2 c4_i32_268
  let v303 : BitVec 32 := Scalar.addi c0_i32_269 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v304 : BitVec 32 := Scalar.muli v5 c2_i32_270
  let v305 : BitVec 32 := Scalar.addi v303 v304
  let c1_i32_271 : BitVec 32 := 1#32
  let v306 : BitVec 32 := Scalar.muli v10 c1_i32_271
  let v307 : BitVec 32 := Scalar.addi v305 v306
  v307.toNat
def k0_cond16 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v152 : BitVec 32 := Scalar.extui v11
  let c0_i32_134 : BitVec 32 := 0#32
  let v153 : BitVec 1 := Scalar.cmpi .ne v152 c0_i32_134
  v153

def k0_dev10 (d0 : Dev nD) (v10 : BitVec 32) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v302 : BitVec 32 := Scalar.muli v2 c4_i32_269
  let v303 : BitVec 32 := Scalar.addi c0_i32_270 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v304 : BitVec 32 := Scalar.muli v5 c2_i32_271
  let v305 : BitVec 32 := Scalar.addi v303 v304
  let c1_i32_272 : BitVec 32 := 1#32
  let v306 : BitVec 32 := Scalar.muli v10 c1_i32_272
  let v307 : BitVec 32 := Scalar.addi v305 v306
  v307.toNat
def k0_cond18 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v169 : BitVec 32 := Scalar.extui v11
  let c0_i32_150 : BitVec 32 := 0#32
  let v170 : BitVec 1 := Scalar.cmpi .ne v169 c0_i32_150
  v170

def k0_dev11 (d0 : Dev nD) (v10 : BitVec 32) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v302 : BitVec 32 := Scalar.muli v2 c4_i32_268
  let v303 : BitVec 32 := Scalar.addi c0_i32_269 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v304 : BitVec 32 := Scalar.muli v5 c2_i32_270
  let v305 : BitVec 32 := Scalar.addi v303 v304
  let c1_i32_271 : BitVec 32 := 1#32
  let v306 : BitVec 32 := Scalar.muli v10 c1_i32_271
  let v307 : BitVec 32 := Scalar.addi v305 v306
  v307.toNat
def k0_cond20 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v186 : BitVec 32 := Scalar.extui v11
  let c0_i32_166 : BitVec 32 := 0#32
  let v187 : BitVec 1 := Scalar.cmpi .ne v186 c0_i32_166
  v187

def k0_dev12 (d0 : Dev nD) (v10 : BitVec 32) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v302 : BitVec 32 := Scalar.muli v2 c4_i32_269
  let v303 : BitVec 32 := Scalar.addi c0_i32_270 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v304 : BitVec 32 := Scalar.muli v5 c2_i32_271
  let v305 : BitVec 32 := Scalar.addi v303 v304
  let c1_i32_272 : BitVec 32 := 1#32
  let v306 : BitVec 32 := Scalar.muli v10 c1_i32_272
  let v307 : BitVec 32 := Scalar.addi v305 v306
  v307.toNat
def k0_cond22 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v203 : BitVec 32 := Scalar.extui v11
  let c0_i32_182 : BitVec 32 := 0#32
  let v204 : BitVec 1 := Scalar.cmpi .ne v203 c0_i32_182
  v204

def k0_dev13 (d0 : Dev nD) (v10 : BitVec 32) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v302 : BitVec 32 := Scalar.muli v2 c4_i32_268
  let v303 : BitVec 32 := Scalar.addi c0_i32_269 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v304 : BitVec 32 := Scalar.muli v5 c2_i32_270
  let v305 : BitVec 32 := Scalar.addi v303 v304
  let c1_i32_271 : BitVec 32 := 1#32
  let v306 : BitVec 32 := Scalar.muli v10 c1_i32_271
  let v307 : BitVec 32 := Scalar.addi v305 v306
  v307.toNat
def k0_cond24 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v220 : BitVec 32 := Scalar.extui v11
  let c0_i32_198 : BitVec 32 := 0#32
  let v221 : BitVec 1 := Scalar.cmpi .ne v220 c0_i32_198
  v221

def k0_dev14 (d0 : Dev nD) (v10 : BitVec 32) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v302 : BitVec 32 := Scalar.muli v2 c4_i32_269
  let v303 : BitVec 32 := Scalar.addi c0_i32_270 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v304 : BitVec 32 := Scalar.muli v5 c2_i32_271
  let v305 : BitVec 32 := Scalar.addi v303 v304
  let c1_i32_272 : BitVec 32 := 1#32
  let v306 : BitVec 32 := Scalar.muli v10 c1_i32_272
  let v307 : BitVec 32 := Scalar.addi v305 v306
  v307.toNat
def k0_cond26 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v237 : BitVec 32 := Scalar.extui v11
  let c0_i32_214 : BitVec 32 := 0#32
  let v238 : BitVec 1 := Scalar.cmpi .ne v237 c0_i32_214
  v238

def k0_dev15 (d0 : Dev nD) (v10 : BitVec 32) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v302 : BitVec 32 := Scalar.muli v2 c4_i32_268
  let v303 : BitVec 32 := Scalar.addi c0_i32_269 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v304 : BitVec 32 := Scalar.muli v5 c2_i32_270
  let v305 : BitVec 32 := Scalar.addi v303 v304
  let c1_i32_271 : BitVec 32 := 1#32
  let v306 : BitVec 32 := Scalar.muli v10 c1_i32_271
  let v307 : BitVec 32 := Scalar.addi v305 v306
  v307.toNat
def k0_cond28 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v254 : BitVec 32 := Scalar.extui v11
  let c0_i32_230 : BitVec 32 := 0#32
  let v255 : BitVec 1 := Scalar.cmpi .ne v254 c0_i32_230
  v255

def k0_dev16 (d0 : Dev nD) (v10 : BitVec 32) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v302 : BitVec 32 := Scalar.muli v2 c4_i32_269
  let v303 : BitVec 32 := Scalar.addi c0_i32_270 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v304 : BitVec 32 := Scalar.muli v5 c2_i32_271
  let v305 : BitVec 32 := Scalar.addi v303 v304
  let c1_i32_272 : BitVec 32 := 1#32
  let v306 : BitVec 32 := Scalar.muli v10 c1_i32_272
  let v307 : BitVec 32 := Scalar.addi v305 v306
  v307.toNat
def k0_cond30 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v271 : BitVec 32 := Scalar.extui v11
  let c0_i32_246 : BitVec 32 := 0#32
  let v272 : BitVec 1 := Scalar.cmpi .ne v271 c0_i32_246
  v272

def k0_dev17 (d0 : Dev nD) (v10 : BitVec 32) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v302 : BitVec 32 := Scalar.muli v2 c4_i32_268
  let v303 : BitVec 32 := Scalar.addi c0_i32_269 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v304 : BitVec 32 := Scalar.muli v5 c2_i32_270
  let v305 : BitVec 32 := Scalar.addi v303 v304
  let c1_i32_271 : BitVec 32 := 1#32
  let v306 : BitVec 32 := Scalar.muli v10 c1_i32_271
  let v307 : BitVec 32 := Scalar.addi v305 v306
  v307.toNat
def k0_cond32 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v282 : BitVec 32 := Scalar.extui v11
  let c0_i32_256 : BitVec 32 := 0#32
  let v283 : BitVec 1 := Scalar.cmpi .ne v282 c0_i32_256
  v283

def k0_chk1 (d0 : Dev nD) (v10 : BitVec 32) : Prop :=
  (∀ (k0_h1 : k0_cond1 d0 v10 = 1#1), (k0_dev1 d0 v10) < nD) ∧
  (∀ (k0_h2 : k0_cond2 d0 v10 = 1#1), (k0_dev2 d0 v10) < nD) ∧
  (∀ (k0_h4 : k0_cond4 d0 v10 = 1#1), (k0_dev3 d0 v10) < nD) ∧
  (∀ (k0_h6 : k0_cond6 d0 v10 = 1#1), (k0_dev4 d0 v10) < nD) ∧
  (∀ (k0_h8 : k0_cond8 d0 v10 = 1#1), (k0_dev5 d0 v10) < nD) ∧
  (∀ (k0_h10 : k0_cond10 d0 v10 = 1#1), (k0_dev6 d0 v10) < nD) ∧
  (∀ (k0_h12 : k0_cond12 d0 v10 = 1#1), (k0_dev7 d0 v10) < nD) ∧
  (∀ (k0_h14 : k0_cond14 d0 v10 = 1#1), (k0_dev8 d0 v10) < nD) ∧
  (∀ (k0_h16 : k0_cond16 d0 v10 = 1#1), (k0_dev9 d0 v10) < nD) ∧
  (∀ (k0_h18 : k0_cond18 d0 v10 = 1#1), (k0_dev10 d0 v10) < nD) ∧
  (∀ (k0_h20 : k0_cond20 d0 v10 = 1#1), (k0_dev11 d0 v10) < nD) ∧
  (∀ (k0_h22 : k0_cond22 d0 v10 = 1#1), (k0_dev12 d0 v10) < nD) ∧
  (∀ (k0_h24 : k0_cond24 d0 v10 = 1#1), (k0_dev13 d0 v10) < nD) ∧
  (∀ (k0_h26 : k0_cond26 d0 v10 = 1#1), (k0_dev14 d0 v10) < nD) ∧
  (∀ (k0_h28 : k0_cond28 d0 v10 = 1#1), (k0_dev15 d0 v10) < nD) ∧
  (∀ (k0_h30 : k0_cond30 d0 v10 = 1#1), (k0_dev16 d0 v10) < nD) ∧
  (∀ (k0_h32 : k0_cond32 d0 v10 = 1#1), (k0_dev17 d0 v10) < nD)
theorem k0_dev1_lt : ∀ (d0 : Dev nD) (v10 : BitVec 32) (k0_hw1 : k0_chk1 d0 v10), ∀ (k0_h1 : k0_cond1 d0 v10 = 1#1), (k0_dev1 d0 v10) < nD := fun d0 v10 k0_hw1 k0_h1 => k0_hw1.1 k0_h1
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.2.1 k0_h2
theorem k0_dev3_lt : ∀ (d0 : Dev nD) (v10 : BitVec 32) (k0_hw1 : k0_chk1 d0 v10), ∀ (k0_h4 : k0_cond4 d0 v10 = 1#1), (k0_dev3 d0 v10) < nD := fun d0 v10 k0_hw1 k0_h4 => k0_hw1.2.2.1 k0_h4
theorem k0_dev4_lt : ∀ (d0 : Dev nD) (v10 : BitVec 32) (k0_hw1 : k0_chk1 d0 v10), ∀ (k0_h6 : k0_cond6 d0 v10 = 1#1), (k0_dev4 d0 v10) < nD := fun d0 v10 k0_hw1 k0_h6 => k0_hw1.2.2.2.1 k0_h6
theorem k0_dev5_lt : ∀ (d0 : Dev nD) (v10 : BitVec 32) (k0_hw1 : k0_chk1 d0 v10), ∀ (k0_h8 : k0_cond8 d0 v10 = 1#1), (k0_dev5 d0 v10) < nD := fun d0 v10 k0_hw1 k0_h8 => k0_hw1.2.2.2.2.1 k0_h8
theorem k0_dev6_lt : ∀ (d0 : Dev nD) (v10 : BitVec 32) (k0_hw1 : k0_chk1 d0 v10), ∀ (k0_h10 : k0_cond10 d0 v10 = 1#1), (k0_dev6 d0 v10) < nD := fun d0 v10 k0_hw1 k0_h10 => k0_hw1.2.2.2.2.2.1 k0_h10
theorem k0_dev7_lt : ∀ (d0 : Dev nD) (v10 : BitVec 32) (k0_hw1 : k0_chk1 d0 v10), ∀ (k0_h12 : k0_cond12 d0 v10 = 1#1), (k0_dev7 d0 v10) < nD := fun d0 v10 k0_hw1 k0_h12 => k0_hw1.2.2.2.2.2.2.1 k0_h12
theorem k0_dev8_lt : ∀ (d0 : Dev nD) (v10 : BitVec 32) (k0_hw1 : k0_chk1 d0 v10), ∀ (k0_h14 : k0_cond14 d0 v10 = 1#1), (k0_dev8 d0 v10) < nD := fun d0 v10 k0_hw1 k0_h14 => k0_hw1.2.2.2.2.2.2.2.1 k0_h14
theorem k0_dev9_lt : ∀ (d0 : Dev nD) (v10 : BitVec 32) (k0_hw1 : k0_chk1 d0 v10), ∀ (k0_h16 : k0_cond16 d0 v10 = 1#1), (k0_dev9 d0 v10) < nD := fun d0 v10 k0_hw1 k0_h16 => k0_hw1.2.2.2.2.2.2.2.2.1 k0_h16
theorem k0_dev10_lt : ∀ (d0 : Dev nD) (v10 : BitVec 32) (k0_hw1 : k0_chk1 d0 v10), ∀ (k0_h18 : k0_cond18 d0 v10 = 1#1), (k0_dev10 d0 v10) < nD := fun d0 v10 k0_hw1 k0_h18 => k0_hw1.2.2.2.2.2.2.2.2.2.1 k0_h18
theorem k0_dev11_lt : ∀ (d0 : Dev nD) (v10 : BitVec 32) (k0_hw1 : k0_chk1 d0 v10), ∀ (k0_h20 : k0_cond20 d0 v10 = 1#1), (k0_dev11 d0 v10) < nD := fun d0 v10 k0_hw1 k0_h20 => k0_hw1.2.2.2.2.2.2.2.2.2.2.1 k0_h20
theorem k0_dev12_lt : ∀ (d0 : Dev nD) (v10 : BitVec 32) (k0_hw1 : k0_chk1 d0 v10), ∀ (k0_h22 : k0_cond22 d0 v10 = 1#1), (k0_dev12 d0 v10) < nD := fun d0 v10 k0_hw1 k0_h22 => k0_hw1.2.2.2.2.2.2.2.2.2.2.2.1 k0_h22
theorem k0_dev13_lt : ∀ (d0 : Dev nD) (v10 : BitVec 32) (k0_hw1 : k0_chk1 d0 v10), ∀ (k0_h24 : k0_cond24 d0 v10 = 1#1), (k0_dev13 d0 v10) < nD := fun d0 v10 k0_hw1 k0_h24 => k0_hw1.2.2.2.2.2.2.2.2.2.2.2.2.1 k0_h24
theorem k0_dev14_lt : ∀ (d0 : Dev nD) (v10 : BitVec 32) (k0_hw1 : k0_chk1 d0 v10), ∀ (k0_h26 : k0_cond26 d0 v10 = 1#1), (k0_dev14 d0 v10) < nD := fun d0 v10 k0_hw1 k0_h26 => k0_hw1.2.2.2.2.2.2.2.2.2.2.2.2.2.1 k0_h26
theorem k0_dev15_lt : ∀ (d0 : Dev nD) (v10 : BitVec 32) (k0_hw1 : k0_chk1 d0 v10), ∀ (k0_h28 : k0_cond28 d0 v10 = 1#1), (k0_dev15 d0 v10) < nD := fun d0 v10 k0_hw1 k0_h28 => k0_hw1.2.2.2.2.2.2.2.2.2.2.2.2.2.2.1 k0_h28
theorem k0_dev16_lt : ∀ (d0 : Dev nD) (v10 : BitVec 32) (k0_hw1 : k0_chk1 d0 v10), ∀ (k0_h30 : k0_cond30 d0 v10 = 1#1), (k0_dev16 d0 v10) < nD := fun d0 v10 k0_hw1 k0_h30 => k0_hw1.2.2.2.2.2.2.2.2.2.2.2.2.2.2.2.1 k0_h30
theorem k0_dev17_lt : ∀ (d0 : Dev nD) (v10 : BitVec 32) (k0_hw1 : k0_chk1 d0 v10), ∀ (k0_h32 : k0_cond32 d0 v10 = 1#1), (k0_dev17 d0 v10) < nD := fun d0 v10 k0_hw1 k0_h32 => k0_hw1.2.2.2.2.2.2.2.2.2.2.2.2.2.2.2.2 k0_h32

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩
abbrev S2x1x1 : Shape := ⟨3, ![2, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | .hbm, ⟨14, _⟩ => ⟨S_, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x4096x2048, .f32⟩
  | .hbm, ⟨22, _⟩ => ⟨S2x4096x2048, .f32⟩
  | .hbm, ⟨23, _⟩ => ⟨S_, .f32⟩
  | .hbm, ⟨24, _⟩ => ⟨S2x4096x2048, .f32⟩
  | .hbm, ⟨25, _⟩ => ⟨S2x4096x2048, .f32⟩
  | .hbm, ⟨26, _⟩ => ⟨S2, .i32⟩
  | .hbm, ⟨27, _⟩ => ⟨S2, .i1⟩
  | .hbm, ⟨28, _⟩ => ⟨S2x1x1, .i1⟩
  | .hbm, ⟨29, _⟩ => ⟨S_, .f32⟩
  | .hbm, ⟨30, _⟩ => ⟨S2x4096x2048, .f32⟩
  | .hbm, ⟨31, _⟩ => ⟨S2x4096x2048, .f32⟩
  | .hbm, ⟨32, _⟩ => ⟨S2x4096x2048, .i1⟩
  | .hbm, ⟨33, _⟩ => ⟨S2x4096x2048, .f32⟩
  | .hbm, ⟨34, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_cst_2 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_call3_v0 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.KernelIdealSteps.lean ====
/-
The steps of the kernel's body, each written once for a symbolic chunk.

The printed body is unrolled: sixteen chunks of 256 rows, every one moved by the same few
operations at its own literal offsets. Here each kind of step is one program that takes the
chunk as an argument:
`enqStep` starts the copy of a chunk of `x` into its half of the double buffer, `waitStep` waits for it,
`sendStep` quantises it and starts its transfer to the partner (when the device swaps),
`keepStep` stores it rounded into the result (when the device keeps its block),
`recvLoad` waits for a chunk of the partner and reads it, `recvStore` stores its
values into the result, and `sentStep` waits until a transfer of the device's own has left.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Exchange

open Cert.KernelIdeal Cert.KernelIdeal.Gen
open Idealize.ShloMosaic Idealize.ShloMosaic.TcCoe
open Idealize.SL Idealize.SL.Sem

variable {F : FTy → Type} [FloatOps F]

/-! ## The buffers -/

/-- The device's block of `x`, in HBM. -/
abbrev xM : Memref sig .tc .hbm S1x4096x2048 .f32 := Memref.whole main_arg0
/-- The permutation table, staged into SMEM. -/
abbrev tM : Memref sig .tc .smem S2 .i32 := Memref.whole cc0_stg0_0
/-- The result's staging buffer. -/
abbrev oM : Memref sig .tc .vmem S1x4096x2048 .bf16 := Memref.whole cc0_stg1_0
/-- The double buffer that chunks of `x` are copied into. -/
abbrev vM : Memref sig .tc .vmem S2x256x2048 .f32 := Memref.whole cc0_scratch0
/-- The quantised block that is sent. -/
abbrev qM : Memref sig .tc .vmem S1x4096x2048 .i8 := Memref.whole cc0_scratch1
/-- The quantised block that is received. -/
abbrev rM : Memref sig .tc .vmem S1x4096x2048 .i8 := Memref.whole cc0_scratch2
/-- The semaphores of the local copies, of the transfers sent, of the transfers received. -/
abbrev cS : DmaSems sig S2 := cc0_scratch3
abbrev sS : DmaSems sig S16 := cc0_scratch4
abbrev rS : DmaSems sig S16 := cc0_scratch5

/-! ## The chunks -/

/-- Which half of the double buffer chunk `k` uses. -/
abbrev half (k : Fin 16) : Fin 2 := ⟨k.val % 2, Nat.mod_lt _ (by decide)⟩

/-- The rectangles of chunks, halves and semaphores lie inside their arrays. -/
theorem inbB : ∀ k : Fin 16, ∀ a, (![0, 256 * k.val, 0] : Fin 3 → Nat) a + S1x256x2048.size a ≤ S1x4096x2048.size a := by decide
theorem inbV : ∀ j : Fin 2, ∀ a, (![j.val, 0, 0] : Fin 3 → Nat) a + S1x256x2048.size a ≤ S2x256x2048.size a := by decide
theorem inbC : ∀ j : Fin 2, ∀ a, (![j.val] : Fin 1 → Nat) a + S1.size a ≤ S2.size a := by decide
theorem inbS : ∀ k : Fin 16, ∀ a, (![k.val] : Fin 1 → Nat) a + S1.size a ≤ S16.size a := by decide

/-- Rows `256 k … 256 k + 255` of a block. -/
abbrev rB (k : Fin 16) : Rect S1x4096x2048 := Rect.unit (s := S1x4096x2048) ![0, 256 * k.val, 0] S1x256x2048.size (inbB k)
/-- Half `j` of the double buffer. -/
abbrev rV (j : Fin 2) : Rect S2x256x2048 := Rect.unit (s := S2x256x2048) ![j.val, 0, 0] S1x256x2048.size (inbV j)

/-- The rows of a chunk fill whole words of memory. -/
theorem packed8 : ∀ k : Fin 16, (rB k).PackedRows (EltTy.packing .i8) := by decide
theorem packed16 : ∀ k : Fin 16, (rB k).PackedRows (EltTy.packing .bf16) := by decide
theorem words8 : ∀ k : Fin 16, (rB k).WholeWords (EltTy.packing .i8) := by decide

/-- Chunk `k` of the block of `x`, the half of the double buffer, the chunks sent and received: as the transfers name them. -/
abbrev xC (k : Fin 16) : Memref sig .tc .hbm S256x2048 .f32 := (xM.slice (rB k) (fun _ => rfl)).squeeze S256x2048 squeezes_S1x256x2048_S256x2048
abbrev vC (j : Fin 2) : Memref sig .tc .vmem S256x2048 .f32 := (vM.slice (rV j) (fun _ => rfl)).squeeze S256x2048 squeezes_S1x256x2048_S256x2048
abbrev qC (k : Fin 16) : Memref sig .tc .vmem S256x2048 .i8 := (qM.slice (rB k) (fun _ => rfl)).squeeze S256x2048 squeezes_S1x256x2048_S256x2048
abbrev rC (k : Fin 16) : Memref sig .tc .vmem S256x2048 .i8 := (rM.slice (rB k) (fun _ => rfl)).squeeze S256x2048 squeezes_S1x256x2048_S256x2048

/-- The semaphore of each copy, of each transfer on its sender and on its receiver. -/
abbrev cSem (j : Fin 2) : DmaSem sig := ((cS.slice (Rect.unit (s := S2) ![j.val] S1.size (inbC j))).squeeze S_ squeezes_S1_S_).sem
abbrev sSem (k : Fin 16) : DmaSem sig := ((sS.slice (Rect.unit (s := S16) ![k.val] S1.size (inbS k))).squeeze S_ squeezes_S1_S_).sem
abbrev rSem (k : Fin 16) : DmaSem sig := ((rS.slice (Rect.unit (s := S16) ![k.val] S1.size (inbS k))).squeeze S_ squeezes_S1_S_).sem

/-- The barrier semaphore. -/
abbrev barS : Sem sig := (SemArray.scalar (sig.barrier 0 rfl) : Sems sig S_).sem

/-! ## The values -/

/-- What a chunk is quantised to. -/
abbrev quant (v : Vec F S1x256x2048 .f32) : IVec S1x256x2048 8 := k0_pay25 v
/-- What a chunk is rounded to. -/
abbrev keep (v : Vec F S1x256x2048 .f32) : FVec F S1x256x2048 .bf16 := k0_pay26 v
/-- What a received chunk means. -/
abbrev dequant (v : Vec F S1x256x2048 .i8) : FVec F S1x256x2048 .bf16 := k0_pay5 v

/-! ## The steps -/

abbrev TcProg (F : FTy → Type) (α : Type) : Type 1 := Prog (TpuEff nD τ sig (Elt F) Λ₀ .tc) α

def enqStep (k : Fin 16) : TcProg F PUnit :=
  Prog.lift (.enqueueDma (xC k) (.here (vC (half k))) (.dma (cSem (half k))) ((View.wordExact_bits rfl).reshape _ _) ((View.wordExact_bits rfl).reshape _ _) ⟨Or.inl rfl, trivial⟩)

def waitStep (k : Fin 16) : TcProg F PUnit :=
  Prog.lift (.waitDma2 (cSem (half k)) (xC k) (vC (half k)) ((View.wordExact_bits rfl).reshape _ _) ((View.wordExact_bits rfl).reshape _ _))

/-- The printed text of a conditional step holds what follows it once in each branch: `rest`. -/
def sendThen (d : Dev nD) (w : BitVec 32) (hw : k0_chk1 d w) (k : Fin 16) {α : Type} (rest : TcProg F α) : TcProg F α := do
  if h : k0_cond2 d w = 1#1 then do
    let v : Vec F S1x256x2048 .f32 ← Prog.lift (.load vM (rV (half k)).toLoadRect (View.loadsAt_vmem h_S1x256x2048))
    let _ : Vec F S1x256x2048 .i8 ← Prog.lift (.load qM (rB k).toLoadRect (View.loadsAt_vmem h_S1x256x2048))
    Prog.lift (.store qM (rB k) (quant v) Finset.univ (View.stores_vmem h_S1x256x2048 ((Memref.isWhole_whole cc0_scratch1).storeExact_slice rfl _ (packed8 k)) (fun _ => rfl)) (.inl rfl))
    Prog.lift (.enqueueDma (qC k) (.remote (Dev.tc (⟨k0_dev2 d w, k0_dev2_lt d w hw h⟩ : Dev nD)) (rC k) (.dma (sSem k))) (.dma (rSem k)) (((Memref.isWhole_whole cc0_scratch1).wordExact_slice rfl _ (words8 k)).reshape _ _) (((Memref.isWhole_whole cc0_scratch2).wordExact_slice rfl _ (words8 k)).reshape _ _) ⟨⟨rfl, Or.inl rfl⟩, trivial⟩)
    rest
  else rest

def keepThen (b : BitVec 1) (k : Fin 16) {α : Type} (rest : TcProg F α) : TcProg F α := do
  if Scalar.cmpi .ne (Scalar.extui (Scalar.xori b 1#1)) 0#32 = 1#1 then do
    let v : Vec F S1x256x2048 .f32 ← Prog.lift (.load vM (rV (half k)).toLoadRect (View.loadsAt_vmem h_S1x256x2048))
    let _ : Vec F S1x256x2048 .bf16 ← Prog.lift (.load oM (rB k).toLoadRect (View.loadsAt_vmem h_S1x256x2048))
    Prog.lift (.store oM (rB k) (keep v) Finset.univ (View.stores_vmem h_S1x256x2048 ((Memref.isWhole_whole cc0_stg1_0).storeExact_slice rfl _ (packed16 k)) (fun _ => rfl)) (.inl rfl))
    rest
  else rest

def recvLoad (k : Fin 16) : TcProg F (Vec F S1x256x2048 .i8) := do
  Prog.lift (.waitDma2 (rSem k) (qC k) (rC k) (((Memref.isWhole_whole cc0_scratch1).wordExact_slice rfl _ (words8 k)).reshape _ _) (((Memref.isWhole_whole cc0_scratch2).wordExact_slice rfl _ (words8 k)).reshape _ _))
  Prog.lift (.load rM (rB k).toLoadRect (View.loadsAt_vmem h_S1x256x2048))

def recvStore (k : Fin 16) (v : FVec F S1x256x2048 .bf16) : TcProg F PUnit := do
  let _ : Vec F S1x256x2048 .bf16 ← Prog.lift (.load oM (rB k).toLoadRect (View.loadsAt_vmem h_S1x256x2048))
  Prog.lift (.store oM (rB k) v Finset.univ (View.stores_vmem h_S1x256x2048 ((Memref.isWhole_whole cc0_stg1_0).storeExact_slice rfl _ (packed16 k)) (fun _ => rfl)) (.inl rfl))

def sentStep (k : Fin 16) : TcProg F PUnit :=
  Prog.lift (.waitDma2 (sSem k) (rC k) (qC k) (((Memref.isWhole_whole cc0_scratch2).wordExact_slice rfl _ (words8 k)).reshape _ _) (((Memref.isWhole_whole cc0_scratch1).wordExact_slice rfl _ (words8 k)).reshape _ _))

/-- The handshake with the partner, when the device swaps: the signal to the partner's barrier semaphore, the wait on its own. -/
def meetThen (d : Dev nD) (w : BitVec 32) (hw : k0_chk1 d w) {α : Type} (rest : TcProg F α) : TcProg F α := do
  if h : k0_cond1 d w = 1#1 then do
    semSignalWord (⟨k0_dev1 d w, k0_dev1_lt d w hw h⟩ : Dev nD) barS 1#32
    semWaitWord barS 1#32
    rest
  else rest

/-- The steps on their own: nothing follows. -/
def sendStep (d : Dev nD) (w : BitVec 32) (hw : k0_chk1 d w) (k : Fin 16) : TcProg F PUnit := sendThen d w hw k (pure ⟨⟩)
def keepStep (b : BitVec 1) (k : Fin 16) : TcProg F PUnit := keepThen b k (pure ⟨⟩)
def meetStep (d : Dev nD) (w : BitVec 32) (hw : k0_chk1 d w) : TcProg F PUnit := meetThen d w hw (pure ⟨⟩)

/-- A conditional step with a continuation is the step and then the continuation. -/
theorem sendThen_eq (d : Dev nD) (w : BitVec 32) (hw : k0_chk1 d w) (k : Fin 16) {α : Type} (rest : TcProg F α) :
    sendThen d w hw k rest = sendStep d w hw k >>= fun _ => rest := by
  unfold sendStep sendThen; split <;> rfl
theorem keepThen_eq (b : BitVec 1) (k : Fin 16) {α : Type} (rest : TcProg F α) :
    keepThen b k rest = keepStep b k >>= fun _ => rest := by
  unfold keepStep keepThen; split <;> rfl
theorem meetThen_eq (d : Dev nD) (w : BitVec 32) (hw : k0_chk1 d w) {α : Type} (rest : TcProg F α) :
    meetThen d w hw rest = meetStep d w hw >>= fun _ => rest := by
  unfold meetStep meetThen; split <;> rfl

end Cert.KernelIdeal.Exchange

end
-- ==== Proof.KernelIdealShape.lean ====
/-
The printed body as the steps of `KernelIdealSteps`, in order, and the rule for running it.

The body is printed in parts that cut the sixteen chunks at arbitrary places. Each part is shown
equal to its steps; then one structure, `Run`, holds what has to be known about each kind of
step, for a symbolic chunk, and `Run.body` concludes the whole body from it.
-/
module

public import proofs.«01_k».proof.Proof.KernelIdealSteps
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the protocol's rounds, and counters for the local copies -/

/-- The duties of a cell: the protocol's cells have one each. -/
abbrev UB : Type := URounds (GSem nD τ sig) Unit
abbrev UU : Type := UR sig nD τ × (UB × Counters)

local notation "𝕄" => MT nD τ sig Unit (Elt F) ℕ UU ℕ

abbrev 𝒱₀ : Variants := Variants.none

/-- Running `p` on device `c`'s TensorCore ends in `Q`. -/
abbrev WP (c : Dev nD) {α : Type} (p : TcProg F α) (Q : α → sProp 𝕄) : sProp 𝕄 :=
  wp frame (wpE (defs₀ (F := F)) 𝒱₀ (c : Thread nD τ) none) Set.univ p Q

/-- One program after another: the rule for a step and what follows it, with and without a value in between. -/
theorem seq {c : Dev nD} {α β : Type} {p : TcProg F α} {q : TcProg F β} {P Q : sProp 𝕄} {Φ : β → sProp 𝕄}
    (h₁ : P ⊢ WP c p (fun _ => Q)) (h₂ : Q ⊢ WP c q Φ) : P ⊢ WP c (p >>= fun _ => q) Φ := by
  unfold WP; rw [wp_bind]; exact h₁.trans (wp_mono _ _ _ fun _ => h₂)

theorem seqv {c : Dev nD} {α β : Type} {p : TcProg F α} {q : α → TcProg F β} {P : sProp 𝕄} {Q : α → sProp 𝕄} {Φ : β → sProp 𝕄}
    (h₁ : P ⊢ WP c p Q) (h₂ : ∀ v, Q v ⊢ WP c (q v) Φ) : P ⊢ WP c (p >>= q) Φ := by
  unfold WP; rw [wp_bind]; exact h₁.trans (wp_mono _ _ _ h₂)

/-- A program that has ended. -/
theorem done {c : Dev nD} {α : Type} {a : α} {P : sProp 𝕄} {Φ : α → sProp 𝕄} (h : P ⊢ Φ a) : P ⊢ WP c (pure a) Φ :=
  h.trans (le_wp_ret _ _ _ a Φ)

/-- The same for the steps that only happen on a condition. -/
theorem seqSend {c d : Dev nD} {w : BitVec 32} {hw : k0_chk1 d w} {k : Fin 16} {β : Type} {q : TcProg F β} {P Q : sProp 𝕄} {Φ : β → sProp 𝕄}
    (h₁ : P ⊢ WP c (sendStep d w hw k) (fun _ => Q)) (h₂ : Q ⊢ WP c q Φ) : P ⊢ WP c (sendThen d w hw k q) Φ := by
  rw [sendThen_eq]; exact seq h₁ h₂
theorem seqKeep {c : Dev nD} {b : BitVec 1} {k : Fin 16} {β : Type} {q : TcProg F β} {P Q : sProp 𝕄} {Φ : β → sProp 𝕄}
    (h₁ : P ⊢ WP c (keepStep b k) (fun _ => Q)) (h₂ : Q ⊢ WP c q Φ) : P ⊢ WP c (keepThen b k q) Φ := by
  rw [keepThen_eq]; exact seq h₁ h₂
theorem seqMeet {c d : Dev nD} {w : BitVec 32} {hw : k0_chk1 d w} {β : Type} {q : TcProg F β} {P Q : sProp 𝕄} {Φ : β → sProp 𝕄}
    (h₁ : P ⊢ WP c (meetStep d w hw) (fun _ => Q)) (h₂ : Q ⊢ WP c q Φ) : P ⊢ WP c (meetThen d w hw q) Φ := by
  rw [meetThen_eq]; exact seq h₁ h₂

/-! ## The parts as steps -/

section Parts
variable (d : Dev nD) (v2 v5 : BitVec 32) (w : BitVec 32) (hw : k0_chk1 d w) (b : BitVec 1)

/-- The printed parts, each equal to its steps. -/
theorem part17_eq : k0_part17 (F := F) xM (Memref.isWhole_whole _) tM (Memref.isWhole_whole _) oM (Memref.isWhole_whole _) vM (Memref.isWhole_whole _) qM (Memref.isWhole_whole _) rM (Memref.isWhole_whole _) cS sS rS d v2 v5 w hw b
    = (waitStep 0 >>= fun _ => sendThen d w hw 0 (keepThen b 0 (enqStep 2 >>= fun _ => waitStep 1 >>= fun _ => sendThen d w hw 1 (keepThen b 1 (pure ⟨⟩)))) : TcProg F _) := rfl
theorem part18_eq : k0_part18 (F := F) xM (Memref.isWhole_whole _) tM (Memref.isWhole_whole _) oM (Memref.isWhole_whole _) vM (Memref.isWhole_whole _) qM (Memref.isWhole_whole _) rM (Memref.isWhole_whole _) cS sS rS d v2 v5 w hw b
    = (enqStep 3 >>= fun _ => waitStep 2 >>= fun _ => sendThen d w hw 2 (keepThen b 2 (enqStep 4 >>= fun _ => pure ⟨⟩)) : TcProg F _) := rfl
theorem part19_eq : k0_part19 (F := F) xM (Memref.isWhole_whole _) tM (Memref.isWhole_whole _) oM (Memref.isWhole_whole _) vM (Memref.isWhole_whole _) qM (Memref.isWhole_whole _) rM (Memref.isWhole_whole _) cS sS rS d v2 v5 w hw b
    = (waitStep 3 >>= fun _ => sendThen d w hw 3 (keepThen b 3 (enqStep 5 >>= fun _ => waitStep 4 >>= fun _ => sendThen d w hw 4 (keepThen b 4 (pure ⟨⟩)))) : TcProg F _) := rfl
theorem part20_eq : k0_part20 (F := F) xM (Memref.isWhole_whole _) tM (Memref.isWhole_whole _) oM (Memref.isWhole_whole _) vM (Memref.isWhole_whole _) qM (Memref.isWhole_whole _) rM (Memref.isWhole_whole _) cS sS rS d v2 v5 w hw b
    = (enqStep 6 >>= fun _ => waitStep 5 >>= fun _ => sendThen d w hw 5 (keepThen b 5 (enqStep 7 >>= fun _ => waitStep 6 >>= fun _ => sendThen d w hw 6 (pure 1#1))) : TcProg F _) := rfl
theorem part21_eq : k0_part21 (F := F) xM (Memref.isWhole_whole _) tM (Memref.isWhole_whole _) oM (Memref.isWhole_whole _) vM (Memref.isWhole_whole _) qM (Memref.isWhole_whole _) rM (Memref.isWhole_whole _) cS sS rS d v2 v5 w hw b 1#1
    = (keepThen b 6 (enqStep 8 >>= fun _ => waitStep 7 >>= fun _ => sendThen d w hw 7 (keepThen b 7 (enqStep 9 >>= fun _ => pure ⟨⟩))) : TcProg F _) := rfl
theorem part22_eq : k0_part22 (F := F) xM (Memref.isWhole_whole _) tM (Memref.isWhole_whole _) oM (Memref.isWhole_whole _) vM (Memref.isWhole_whole _) qM (Memref.isWhole_whole _) rM (Memref.isWhole_whole _) cS sS rS d v2 v5 w hw b
    = (waitStep 8 >>= fun _ => sendThen d w hw 8 (keepThen b 8 (enqStep 10 >>= fun _ => waitStep 9 >>= fun _ => sendThen d w hw 9 (keepThen b 9 (pure ⟨⟩)))) : TcProg F _) := rfl
theorem part23_eq : k0_part23 (F := F) xM (Memref.isWhole_whole _) tM (Memref.isWhole_whole _) oM (Memref.isWhole_whole _) vM (Memref.isWhole_whole _) qM (Memref.isWhole_whole _) rM (Memref.isWhole_whole _) cS sS rS d v2 v5 w hw b
    = (enqStep 11 >>= fun _ => waitStep 10 >>= fun _ => sendThen d w hw 10 (keepThen b 10 (enqStep 12 >>= fun _ => pure ⟨⟩)) : TcProg F _) := rfl
theorem part24_eq : k0_part24 (F := F) xM (Memref.isWhole_whole _) tM (Memref.isWhole_whole _) oM (Memref.isWhole_whole _) vM (Memref.isWhole_whole _) qM (Memref.isWhole_whole _) rM (Memref.isWhole_whole _) cS sS rS d v2 v5 w hw b
    = (waitStep 11 >>= fun _ => sendThen d w hw 11 (keepThen b 11 (enqStep 13 >>= fun _ => waitStep 12 >>= fun _ => sendThen d w hw 12 (keepThen b 12 (pure ⟨⟩)))) : TcProg F _) := rfl
theorem part25_eq : ∃ r, k0_part25 (F := F) xM (Memref.isWhole_whole _) tM (Memref.isWhole_whole _) oM (Memref.isWhole_whole _) vM (Memref.isWhole_whole _) qM (Memref.isWhole_whole _) rM (Memref.isWhole_whole _) cS sS rS d v2 v5 w hw b
    = (enqStep 14 >>= fun _ => waitStep 13 >>= fun _ => sendThen d w hw 13 (keepThen b 13 (enqStep 15 >>= fun _ => waitStep 14 >>= fun _ => pure r)) : TcProg F _) := ⟨_, rfl⟩
theorem part1_eq : k0_part1 (F := F) xM (Memref.isWhole_whole _) tM (Memref.isWhole_whole _) oM (Memref.isWhole_whole _) vM (Memref.isWhole_whole _) qM (Memref.isWhole_whole _) rM (Memref.isWhole_whole _) cS sS rS v2 v5 w
    = (recvLoad 0 >>= fun v => recvStore 0 (dequant v) >>= fun _ => pure ⟨⟩ : TcProg F _) := rfl
theorem part2_eq : k0_part2 (F := F) xM (Memref.isWhole_whole _) tM (Memref.isWhole_whole _) oM (Memref.isWhole_whole _) vM (Memref.isWhole_whole _) qM (Memref.isWhole_whole _) rM (Memref.isWhole_whole _) cS sS rS v2 v5 w
    = (recvLoad 1 >>= fun v => recvStore 1 (dequant v) >>= fun _ => recvLoad 2 >>= fun v => pure (k0_pay7 v) : TcProg F _) := rfl
theorem part3_eq (u : FVec F S256x2048 .bf16) : ∃ r, k0_part3 (F := F) xM (Memref.isWhole_whole _) tM (Memref.isWhole_whole _) oM (Memref.isWhole_whole _) vM (Memref.isWhole_whole _) qM (Memref.isWhole_whole _) rM (Memref.isWhole_whole _) cS sS rS v2 v5 w u
    = (recvStore 2 (k0_pay8 u) >>= fun _ => recvLoad 3 >>= fun v => recvStore 3 (dequant v) >>= fun _ => pure r : TcProg F _) := ⟨_, rfl⟩
theorem part4_eq (a e : BitVec 32) : k0_part4 (F := F) xM (Memref.isWhole_whole _) tM (Memref.isWhole_whole _) oM (Memref.isWhole_whole _) vM (Memref.isWhole_whole _) qM (Memref.isWhole_whole _) rM (Memref.isWhole_whole _) cS sS rS v2 v5 w a e
    = (recvLoad 4 >>= fun v => recvStore 4 (dequant v) >>= fun _ => recvLoad 5 >>= fun v => pure (k0_pay11 v) : TcProg F _) := rfl
theorem part5_eq (u : IVec S256x2048 8) : ∃ r, k0_part5 (F := F) xM (Memref.isWhole_whole _) tM (Memref.isWhole_whole _) oM (Memref.isWhole_whole _) vM (Memref.isWhole_whole _) qM (Memref.isWhole_whole _) rM (Memref.isWhole_whole _) cS sS rS v2 v5 w u
    = (recvStore 5 (k0_pay12 u) >>= fun _ => recvLoad 6 >>= fun v => recvStore 6 (dequant v) >>= fun _ => pure r : TcProg F _) := ⟨_, rfl⟩
theorem part6_eq (a : BitVec 32) : k0_part6 (F := F) xM (Memref.isWhole_whole _) tM (Memref.isWhole_whole _) oM (Memref.isWhole_whole _) vM (Memref.isWhole_whole _) qM (Memref.isWhole_whole _) rM (Memref.isWhole_whole _) cS sS rS v2 v5 w a
    = (recvLoad 7 >>= fun v => recvStore 7 (dequant v) >>= fun _ => pure ⟨⟩ : TcProg F _) := rfl
theorem part7_eq : k0_part7 (F := F) xM (Memref.isWhole_whole _) tM (Memref.isWhole_whole _) oM (Memref.isWhole_whole _) vM (Memref.isWhole_whole _) qM (Memref.isWhole_whole _) rM (Memref.isWhole_whole _) cS sS rS v2 v5 w
    = (recvLoad 8 >>= fun v => recvStore 8 (dequant v) >>= fun _ => recvLoad 9 >>= fun v => recvStore 9 (dequant v) >>= fun _ => pure ⟨⟩ : TcProg F _) := rfl
theorem part8_eq : k0_part8 (F := F) xM (Memref.isWhole_whole _) tM (Memref.isWhole_whole _) oM (Memref.isWhole_whole _) vM (Memref.isWhole_whole _) qM (Memref.isWhole_whole _) rM (Memref.isWhole_whole _) cS sS rS v2 v5 w
    = (recvLoad 10 >>= fun v => recvStore 10 (dequant v) >>= fun _ => pure ⟨⟩ : TcProg F _) := rfl
theorem part9_eq : k0_part9 (F := F) xM (Memref.isWhole_whole _) tM (Memref.isWhole_whole _) oM (Memref.isWhole_whole _) vM (Memref.isWhole_whole _) qM (Memref.isWhole_whole _) rM (Memref.isWhole_whole _) cS sS rS v2 v5 w
    = (recvLoad 11 >>= fun v => recvStore 11 (dequant v) >>= fun _ => recvLoad 12 >>= fun v => pure (k0_pay19 v) : TcProg F _) := rfl
theorem part10_eq (u : FVec F S256x2048 .bf16) : ∃ r, k0_part10 (F := F) xM (Memref.isWhole_whole _) tM (Memref.isWhole_whole _) oM (Memref.isWhole_whole _) vM (Memref.isWhole_whole _) qM (Memref.isWhole_whole _) rM (Memref.isWhole_whole _) cS sS rS v2 v5 w u
    = (recvStore 12 (k0_pay20 u) >>= fun _ => recvLoad 13 >>= fun v => recvStore 13 (dequant v) >>= fun _ => pure r : TcProg F _) := ⟨_, rfl⟩
theorem part11_eq (a e : BitVec 32) : k0_part11 (F := F) xM (Memref.isWhole_whole _) tM (Memref.isWhole_whole _) oM (Memref.isWhole_whole _) vM (Memref.isWhole_whole _) qM (Memref.isWhole_whole _) rM (Memref.isWhole_whole _) cS sS rS v2 v5 w a e
    = (recvLoad 14 >>= fun v => recvStore 14 (dequant v) >>= fun _ => recvLoad 15 >>= fun v => pure (k0_pay23 v) : TcProg F _) := rfl
theorem part12_eq (u : IVec S256x2048 8) : k0_part12 (F := F) xM (Memref.isWhole_whole _) tM (Memref.isWhole_whole _) oM (Memref.isWhole_whole _) vM (Memref.isWhole_whole _) qM (Memref.isWhole_whole _) rM (Memref.isWhole_whole _) cS sS rS u
    = (recvStore 15 (k0_pay24 u) >>= fun _ => sentStep 0 >>= fun _ => sentStep 1 >>= fun _ => sentStep 2 >>= fun _ => pure ⟨⟩ : TcProg F _) := rfl
theorem part13_eq : k0_part13 (F := F) xM (Memref.isWhole_whole _) tM (Memref.isWhole_whole _) oM (Memref.isWhole_whole _) vM (Memref.isWhole_whole _) qM (Memref.isWhole_whole _) rM (Memref.isWhole_whole _) cS sS rS
    = (sentStep 3 >>= fun _ => sentStep 4 >>= fun _ => sentStep 5 >>= fun _ => pure ⟨⟩ : TcProg F _) := rfl
theorem part14_eq : k0_part14 (F := F) xM (Memref.isWhole_whole _) tM (Memref.isWhole_whole _) oM (Memref.isWhole_whole _) vM (Memref.isWhole_whole _) qM (Memref.isWhole_whole _) rM (Memref.isWhole_whole _) cS sS rS
    = (sentStep 6 >>= fun _ => sentStep 7 >>= fun _ => sentStep 8 >>= fun _ => sentStep 9 >>= fun _ => pure ⟨⟩ : TcProg F _) := rfl
theorem part15_eq : k0_part15 (F := F) xM (Memref.isWhole_whole _) tM (Memref.isWhole_whole _) oM (Memref.isWhole_whole _) vM (Memref.isWhole_whole _) qM (Memref.isWhole_whole _) rM (Memref.isWhole_whole _) cS sS rS
    = (sentStep 10 >>= fun _ => sentStep 11 >>= fun _ => sentStep 12 >>= fun _ => sentStep 13 >>= fun _ => pure ⟨⟩ : TcProg F _) := rfl

/-- What the body does when the device swaps, after the last chunk has been sent. -/
def drain : TcProg F PUnit := do
  k0_part1 xM (Memref.isWhole_whole _) tM (Memref.isWhole_whole _) oM (Memref.isWhole_whole _) vM (Memref.isWhole_whole _) qM (Memref.isWhole_whole _) rM (Memref.isWhole_whole _) cS sS rS v2 v5 w
  let u ← k0_part2 xM (Memref.isWhole_whole _) tM (Memref.isWhole_whole _) oM (Memref.isWhole_whole _) vM (Memref.isWhole_whole _) qM (Memref.isWhole_whole _) rM (Memref.isWhole_whole _) cS sS rS v2 v5 w
  let ⟨a, e⟩ ← k0_part3 xM (Memref.isWhole_whole _) tM (Memref.isWhole_whole _) oM (Memref.isWhole_whole _) vM (Memref.isWhole_whole _) qM (Memref.isWhole_whole _) rM (Memref.isWhole_whole _) cS sS rS v2 v5 w u
  let u ← k0_part4 xM (Memref.isWhole_whole _) tM (Memref.isWhole_whole _) oM (Memref.isWhole_whole _) vM (Memref.isWhole_whole _) qM (Memref.isWhole_whole _) rM (Memref.isWhole_whole _) cS sS rS v2 v5 w a e
  let a ← k0_part5 xM (Memref.isWhole_whole _) tM (Memref.isWhole_whole _) oM (Memref.isWhole_whole _) vM (Memref.isWhole_whole _) qM (Memref.isWhole_whole _) rM (Memref.isWhole_whole _) cS sS rS v2 v5 w u
  k0_part6 xM (Memref.isWhole_whole _) tM (Memref.isWhole_whole _) oM (Memref.isWhole_whole _) vM (Memref.isWhole_whole _) qM (Memref.isWhole_whole _) rM (Memref.isWhole_whole _) cS sS rS v2 v5 w a
  k0_part7 xM (Memref.isWhole_whole _) tM (Memref.isWhole_whole _) oM (Memref.isWhole_whole _) vM (Memref.isWhole_whole _) qM (Memref.isWhole_whole _) rM (Memref.isWhole_whole _) cS sS rS v2 v5 w
  k0_part8 xM (Memref.isWhole_whole _) tM (Memref.isWhole_whole _) oM (Memref.isWhole_whole _) vM (Memref.isWhole_whole _) qM (Memref.isWhole_whole _) rM (Memref.isWhole_whole _) cS sS rS v2 v5 w
  let u ← k0_part9 xM (Memref.isWhole_whole _) tM (Memref.isWhole_whole _) oM (Memref.isWhole_whole _) vM (Memref.isWhole_whole _) qM (Memref.isWhole_whole _) rM (Memref.isWhole_whole _) cS sS rS v2 v5 w
  let ⟨a, e⟩ ← k0_part10 xM (Memref.isWhole_whole _) tM (Memref.isWhole_whole _) oM (Memref.isWhole_whole _) vM (Memref.isWhole_whole _) qM (Memref.isWhole_whole _) rM (Memref.isWhole_whole _) cS sS rS v2 v5 w u
  let u ← k0_part11 xM (Memref.isWhole_whole _) tM (Memref.isWhole_whole _) oM (Memref.isWhole_whole _) vM (Memref.isWhole_whole _) qM (Memref.isWhole_whole _) rM (Memref.isWhole_whole _) cS sS rS v2 v5 w a e
  k0_part12 xM (Memref.isWhole_whole _) tM (Memref.isWhole_whole _) oM (Memref.isWhole_whole _) vM (Memref.isWhole_whole _) qM (Memref.isWhole_whole _) rM (Memref.isWhole_whole _) cS sS rS u
  k0_part13 xM (Memref.isWhole_whole _) tM (Memref.isWhole_whole _) oM (Memref.isWhole_whole _) vM (Memref.isWhole_whole _) qM (Memref.isWhole_whole _) rM (Memref.isWhole_whole _) cS sS rS
  k0_part14 xM (Memref.isWhole_whole _) tM (Memref.isWhole_whole _) oM (Memref.isWhole_whole _) vM (Memref.isWhole_whole _) qM (Memref.isWhole_whole _) rM (Memref.isWhole_whole _) cS sS rS
  k0_part15 xM (Memref.isWhole_whole _) tM (Memref.isWhole_whole _) oM (Memref.isWhole_whole _) vM (Memref.isWhole_whole _) qM (Memref.isWhole_whole _) rM (Memref.isWhole_whole _) cS sS rS
  sentStep 14
  sentStep 15
  pure ⟨⟩

/-- The end of the body: that, if the device swaps. -/
def ending : TcProg F PUnit :=
  if Scalar.cmpi .ne (Scalar.extui b) 0#32 = 1#1 then drain v2 v5 w else pure ⟨⟩

/-- The body after the handshake and the first two copies have started. -/
def chunks : TcProg F PUnit := do
  k0_part17 xM (Memref.isWhole_whole _) tM (Memref.isWhole_whole _) oM (Memref.isWhole_whole _) vM (Memref.isWhole_whole _) qM (Memref.isWhole_whole _) rM (Memref.isWhole_whole _) cS sS rS d v2 v5 w hw b
  k0_part18 xM (Memref.isWhole_whole _) tM (Memref.isWhole_whole _) oM (Memref.isWhole_whole _) vM (Memref.isWhole_whole _) qM (Memref.isWhole_whole _) rM (Memref.isWhole_whole _) cS sS rS d v2 v5 w hw b
  k0_part19 xM (Memref.isWhole_whole _) tM (Memref.isWhole_whole _) oM (Memref.isWhole_whole _) vM (Memref.isWhole_whole _) qM (Memref.isWhole_whole _) rM (Memref.isWhole_whole _) cS sS rS d v2 v5 w hw b
  let t ← k0_part20 xM (Memref.isWhole_whole _) tM (Memref.isWhole_whole _) oM (Memref.isWhole_whole _) vM (Memref.isWhole_whole _) qM (Memref.isWhole_whole _) rM (Memref.isWhole_whole _) cS sS rS d v2 v5 w hw b
  k0_part21 xM (Memref.isWhole_whole _) tM (Memref.isWhole_whole _) oM (Memref.isWhole_whole _) vM (Memref.isWhole_whole _) qM (Memref.isWhole_whole _) rM (Memref.isWhole_whole _) cS sS rS d v2 v5 w hw b t
  k0_part22 xM (Memref.isWhole_whole _) tM (Memref.isWhole_whole _) oM (Memref.isWhole_whole _) vM (Memref.isWhole_whole _) qM (Memref.isWhole_whole _) rM (Memref.isWhole_whole _) cS sS rS d v2 v5 w hw b
  k0_part23 xM (Memref.isWhole_whole _) tM (Memref.isWhole_whole _) oM (Memref.isWhole_whole _) vM (Memref.isWhole_whole _) qM (Memref.isWhole_whole _) rM (Memref.isWhole_whole _) cS sS rS d v2 v5 w hw b
  k0_part24 xM (Memref.isWhole_whole _) tM (Memref.isWhole_whole _) oM (Memref.isWhole_whole _) vM (Memref.isWhole_whole _) qM (Memref.isWhole_whole _) rM (Memref.isWhole_whole _) cS sS rS d v2 v5 w hw b
  let _ ← k0_part25 xM (Memref.isWhole_whole _) tM (Memref.isWhole_whole _) oM (Memref.isWhole_whole _) vM (Memref.isWhole_whole _) qM (Memref.isWhole_whole _) rM (Memref.isWhole_whole _) cS sS rS d v2 v5 w hw b
  sendThen d w hw 14 (keepThen b 14 (waitStep 15 >>= fun _ => sendThen d w hw 15 (keepThen b 15 (ending v2 v5 w b))))

end Parts

/-- The parts that call others, and the whole body. -/
theorem part16_eq :
    k0_part16 (F := F) xM (Memref.isWhole_whole _) tM (Memref.isWhole_whole _) oM (Memref.isWhole_whole _) vM (Memref.isWhole_whole _) qM (Memref.isWhole_whole _) rM (Memref.isWhole_whole _) cS sS rS
      = (do
        let d : Dev nD ← Prog.lift .deviceId
        let w : Elt F .i32 ← smemLoad tM (Rect.unit (s := S2) (k0_off1 d) S1.size (k0_off1_inb d)) numel1_S1 rfl
        let hw := (← Prog.lift (TpuEff.assume (k0_chk1 d w) (k0_chk1.dec d w))).down
        meetThen d w hw (do
          enqStep 0
          enqStep 1
          pure ⟨d, Scalar.remsi (Scalar.divsi (Dev.word d) 4#32) 2#32, Scalar.remsi (Scalar.divsi (Dev.word d) 2#32) 2#32, w, hw,
            Scalar.cmpi .ne w (Scalar.remsi (Scalar.divsi (Dev.word d) 1#32) 2#32)⟩)) := rfl

set_option maxRecDepth 65536 in
theorem body_eq :
    cc0_body (F := F) xM (Memref.isWhole_whole _) tM (Memref.isWhole_whole _) oM (Memref.isWhole_whole _) vM (Memref.isWhole_whole _) qM (Memref.isWhole_whole _) rM (Memref.isWhole_whole _) cS sS rS
      = (k0_part16 xM (Memref.isWhole_whole _) tM (Memref.isWhole_whole _) oM (Memref.isWhole_whole _) vM (Memref.isWhole_whole _) qM (Memref.isWhole_whole _) rM (Memref.isWhole_whole _) cS sS rS >>= fun x => match x with | ⟨d, v2, v5, w, hw, b⟩ => chunks d v2 v5 w hw b) := rfl

/-! ## The rule for the body -/

/-- What has to be known of each kind of step on device `c`, whose table names `w` and where `b` says whether it swaps:
    `A k` holds before the wait for chunk `k`'s copy, `B k` after it, `M k` after the step that sends,
    `D k` after the step that keeps. -/
structure Run (c : Dev nD) (w : BitVec 32) (hw : k0_chk1 c w) (b : BitVec 1) (A B M D : ℕ → sProp 𝕄) : Prop where
  wait : ∀ k : Fin 16, A k.val ⊢ WP c (waitStep (F := F) k) (fun _ => B k.val)
  send : ∀ k : Fin 16, B k.val ⊢ WP c (sendStep (F := F) c w hw k) (fun _ => M k.val)
  keep : ∀ k : Fin 16, M k.val ⊢ WP c (keepStep (F := F) b k) (fun _ => D k.val)
  enq : ∀ k : Fin 16, 2 ≤ k.val → D (k.val - 2) ⊢ WP c (enqStep (F := F) k) (fun _ => A (k.val - 1))
  last : D 14 ⊢ A 15

/-- And of the last part, where the device swaps: `R k` holds before the wait for the partner's chunk `k`, `V k v`
    when its words `v` have been read, `Z k` before the wait for the device's own transfer `k`. -/
structure Drain (c : Dev nD) (R : ℕ → sProp 𝕄) (V : ℕ → Vec F S1x256x2048 .i8 → sProp 𝕄) (Z : ℕ → sProp 𝕄) : Prop where
  load : ∀ k : Fin 16, R k.val ⊢ WP c (recvLoad (F := F) k) (V k.val)
  store : ∀ (k : Fin 16) (v : Vec F S1x256x2048 .i8), V k.val v ⊢ WP c (recvStore k (dequant v)) (fun _ => R (k.val + 1))
  sent : ∀ k : Fin 16, Z k.val ⊢ WP c (sentStep (F := F) k) (fun _ => Z (k.val + 1))
  turn : R 16 ⊢ Z 0

namespace Run
variable {c : Dev nD} {v2 v5 : BitVec 32} {w : BitVec 32} {hw : k0_chk1 c w} {b : BitVec 1} {A B M D : ℕ → sProp (MT nD τ sig Unit (Elt F) ℕ UU ℕ)} (r : Run (F := F) c w hw b A B M D)
include r

/-- The rule for each part, from the rules of its steps. -/
theorem part17 {Φ : PUnit → sProp 𝕄} (h : D 1 ⊢ Φ ⟨⟩) :
    A 0 ⊢ WP c (k0_part17 (F := F) xM (Memref.isWhole_whole _) tM (Memref.isWhole_whole _) oM (Memref.isWhole_whole _) vM (Memref.isWhole_whole _) qM (Memref.isWhole_whole _) rM (Memref.isWhole_whole _) cS sS rS c v2 v5 w hw b) Φ := by
  rw [part17_eq]
  exact seq (r.wait 0) (seqSend (r.send 0) (seqKeep (r.keep 0) (seq (r.enq 2 (by decide)) (seq (r.wait 1) (seqSend (r.send 1) (seqKeep (r.keep 1) (done h)))))))
theorem part18 {Φ : PUnit → sProp 𝕄} (h : A 3 ⊢ Φ ⟨⟩) :
    D 1 ⊢ WP c (k0_part18 (F := F) xM (Memref.isWhole_whole _) tM (Memref.isWhole_whole _) oM (Memref.isWhole_whole _) vM (Memref.isWhole_whole _) qM (Memref.isWhole_whole _) rM (Memref.isWhole_whole _) cS sS rS c v2 v5 w hw b) Φ := by
  rw [part18_eq]
  exact seq (r.enq 3 (by decide)) (seq (r.wait 2) (seqSend (r.send 2) (seqKeep (r.keep 2) (seq (r.enq 4 (by decide)) (done h)))))
theorem part19 {Φ : PUnit → sProp 𝕄} (h : D 4 ⊢ Φ ⟨⟩) :
    A 3 ⊢ WP c (k0_part19 (F := F) xM (Memref.isWhole_whole _) tM (Memref.isWhole_whole _) oM (Memref.isWhole_whole _) vM (Memref.isWhole_whole _) qM (Memref.isWhole_whole _) rM (Memref.isWhole_whole _) cS sS rS c v2 v5 w hw b) Φ := by
  rw [part19_eq]
  exact seq (r.wait 3) (seqSend (r.send 3) (seqKeep (r.keep 3) (seq (r.enq 5 (by decide)) (seq (r.wait 4) (seqSend (r.send 4) (seqKeep (r.keep 4) (done h)))))))
theorem part20 {Φ : BitVec 1 → sProp 𝕄} (h : M 6 ⊢ Φ 1#1) :
    D 4 ⊢ WP c (k0_part20 (F := F) xM (Memref.isWhole_whole _) tM (Memref.isWhole_whole _) oM (Memref.isWhole_whole _) vM (Memref.isWhole_whole _) qM (Memref.isWhole_whole _) rM (Memref.isWhole_whole _) cS sS rS c v2 v5 w hw b) Φ := by
  rw [part20_eq]
  exact seq (r.enq 6 (by decide)) (seq (r.wait 5) (seqSend (r.send 5) (seqKeep (r.keep 5) (seq (r.enq 7 (by decide)) (seq (r.wait 6) (seqSend (r.send 6) (done h)))))))
theorem part21 {Φ : PUnit → sProp 𝕄} (h : A 8 ⊢ Φ ⟨⟩) :
    M 6 ⊢ WP c (k0_part21 (F := F) xM (Memref.isWhole_whole _) tM (Memref.isWhole_whole _) oM (Memref.isWhole_whole _) vM (Memref.isWhole_whole _) qM (Memref.isWhole_whole _) rM (Memref.isWhole_whole _) cS sS rS c v2 v5 w hw b 1#1) Φ := by
  rw [part21_eq]
  exact seqKeep (r.keep 6) (seq (r.enq 8 (by decide)) (seq (r.wait 7) (seqSend (r.send 7) (seqKeep (r.keep 7) (seq (r.enq 9 (by decide)) (done h))))))
theorem part22 {Φ : PUnit → sProp 𝕄} (h : D 9 ⊢ Φ ⟨⟩) :
    A 8 ⊢ WP c (k0_part22 (F := F) xM (Memref.isWhole_whole _) tM (Memref.isWhole_whole _) oM (Memref.isWhole_whole _) vM (Memref.isWhole_whole _) qM (Memref.isWhole_whole _) rM (Memref.isWhole_whole _) cS sS rS c v2 v5 w hw b) Φ := by
  rw [part22_eq]
  exact seq (r.wait 8) (seqSend (r.send 8) (seqKeep (r.keep 8) (seq (r.enq 10 (by decide)) (seq (r.wait 9) (seqSend (r.send 9) (seqKeep (r.keep 9) (done h)))))))
theorem part23 {Φ : PUnit → sProp 𝕄} (h : A 11 ⊢ Φ ⟨⟩) :
    D 9 ⊢ WP c (k0_part23 (F := F) xM (Memref.isWhole_whole _) tM (Memref.isWhole_whole _) oM (Memref.isWhole_whole _) vM (Memref.isWhole_whole _) qM (Memref.isWhole_whole _) rM (Memref.isWhole_whole _) cS sS rS c v2 v5 w hw b) Φ := by
  rw [part23_eq]
  exact seq (r.enq 11 (by decide)) (seq (r.wait 10) (seqSend (r.send 10) (seqKeep (r.keep 10) (seq (r.enq 12 (by decide)) (done h)))))
theorem part24 {Φ : PUnit → sProp 𝕄} (h : D 12 ⊢ Φ ⟨⟩) :
    A 11 ⊢ WP c (k0_part24 (F := F) xM (Memref.isWhole_whole _) tM (Memref.isWhole_whole _) oM (Memref.isWhole_whole _) vM (Memref.isWhole_whole _) qM (Memref.isWhole_whole _) rM (Memref.isWhole_whole _) cS sS rS c v2 v5 w hw b) Φ := by
  rw [part24_eq]
  exact seq (r.wait 11) (seqSend (r.send 11) (seqKeep (r.keep 11) (seq (r.enq 13 (by decide)) (seq (r.wait 12) (seqSend (r.send 12) (seqKeep (r.keep 12) (done h)))))))
theorem part25 {Φ : BitVec 32 → sProp 𝕄} (h : ∀ x, B 14 ⊢ Φ x) :
    D 12 ⊢ WP c (k0_part25 (F := F) xM (Memref.isWhole_whole _) tM (Memref.isWhole_whole _) oM (Memref.isWhole_whole _) vM (Memref.isWhole_whole _) qM (Memref.isWhole_whole _) rM (Memref.isWhole_whole _) cS sS rS c v2 v5 w hw b) Φ := by
  obtain ⟨x, hx⟩ := part25_eq (F := F) c v2 v5 w hw b
  rw [hx]
  exact seq (r.enq 14 (by decide)) (seq (r.wait 13) (seqSend (r.send 13) (seqKeep (r.keep 13) (seq (r.enq 15 (by decide)) (seq (r.wait 14) (done (h x)))))))

/-- The rule for all chunks. -/
theorem chunks {Φ : PUnit → sProp 𝕄} (h : D 15 ⊢ WP c (ending v2 v5 w b) Φ) :
    A 0 ⊢ WP c (Exchange.chunks (F := F) c v2 v5 w hw b) Φ := by
  unfold Exchange.chunks
  refine seqv (Q := fun _ => D 1) (r.part17 .rfl) fun _ => seqv (Q := fun _ => A 3) (r.part18 .rfl) fun _ => seqv (Q := fun _ => D 4) (r.part19 .rfl) fun _ => ?_
  refine seqv (Q := fun t => iprop(⌜t = 1#1⌝ ∗ M 6)) (r.part20 ?_) fun t => ?_
  · iintro H; isplitr; · ipureintro; rfl
    iexact H
  iintro ⟨%ht, H⟩
  subst ht
  iapply (show M 6 ⊢ _ from ?_) $$ H
  refine seqv (Q := fun _ => A 8) (r.part21 .rfl) fun _ => seqv (Q := fun _ => D 9) (r.part22 .rfl) fun _ => seqv (Q := fun _ => A 11) (r.part23 .rfl) fun _ => seqv (Q := fun _ => D 12) (r.part24 .rfl) fun _ =>
    seqv (Q := fun _ => B 14) (r.part25 fun _ => .rfl) fun _ => ?_
  exact seqSend (r.send 14) (seqKeep (r.keep 14) (r.last.trans (seq (r.wait 15) (seqSend (r.send 15) (seqKeep (r.keep 15) h)))))

end Run

namespace Drain
variable {c : Dev nD} {v2 v5 w : BitVec 32} {R : ℕ → sProp (MT nD τ sig Unit (Elt F) ℕ UU ℕ)} {V : ℕ → Vec F S1x256x2048 .i8 → sProp (MT nD τ sig Unit (Elt F) ℕ UU ℕ)} {Z : ℕ → sProp (MT nD τ sig Unit (Elt F) ℕ UU ℕ)} (r : Drain (F := F) c R V Z)
include r

/-- The rule for each part of the ending, from the rules of its steps. -/
theorem part1 {Φ : PUnit → sProp 𝕄} (h : R 1 ⊢ Φ ⟨⟩) :
    R 0 ⊢ WP c (k0_part1 (F := F) xM (Memref.isWhole_whole _) tM (Memref.isWhole_whole _) oM (Memref.isWhole_whole _) vM (Memref.isWhole_whole _) qM (Memref.isWhole_whole _) rM (Memref.isWhole_whole _) cS sS rS v2 v5 w) Φ := by
  rw [part1_eq]
  exact seqv (r.load 0) fun v => seq (r.store 0 v) (done h)
theorem part2 {Φ : FVec F S256x2048 .bf16 → sProp 𝕄} (h : ∀ v, V 2 v ⊢ Φ (k0_pay7 v)) :
    R 1 ⊢ WP c (k0_part2 (F := F) xM (Memref.isWhole_whole _) tM (Memref.isWhole_whole _) oM (Memref.isWhole_whole _) vM (Memref.isWhole_whole _) qM (Memref.isWhole_whole _) rM (Memref.isWhole_whole _) cS sS rS v2 v5 w) Φ := by
  rw [part2_eq]
  exact seqv (r.load 1) fun v => seq (r.store 1 v) (seqv (r.load 2) fun v => done (h v))
theorem part3 (u : Vec F S1x256x2048 .i8) {Φ : (Σ' (_ : BitVec 32), BitVec 32) → sProp 𝕄} (h : ∀ x, R 4 ⊢ Φ x) :
    V 2 u ⊢ WP c (k0_part3 (F := F) xM (Memref.isWhole_whole _) tM (Memref.isWhole_whole _) oM (Memref.isWhole_whole _) vM (Memref.isWhole_whole _) qM (Memref.isWhole_whole _) rM (Memref.isWhole_whole _) cS sS rS v2 v5 w (k0_pay7 u)) Φ := by
  obtain ⟨x, hx⟩ := part3_eq (F := F) v2 v5 w (k0_pay7 u)
  rw [hx]
  exact seq (r.store 2 u) (seqv (r.load 3) fun v => seq (r.store 3 v) (done (h x)))
theorem part4 (a e : BitVec 32) {Φ : IVec S256x2048 8 → sProp 𝕄} (h : ∀ v, V 5 v ⊢ Φ (k0_pay11 v)) :
    R 4 ⊢ WP c (k0_part4 (F := F) xM (Memref.isWhole_whole _) tM (Memref.isWhole_whole _) oM (Memref.isWhole_whole _) vM (Memref.isWhole_whole _) qM (Memref.isWhole_whole _) rM (Memref.isWhole_whole _) cS sS rS v2 v5 w a e) Φ := by
  rw [part4_eq]
  exact seqv (r.load 4) fun v => seq (r.store 4 v) (seqv (r.load 5) fun v => done (h v))
theorem part5 (u : Vec F S1x256x2048 .i8) {Φ : BitVec 32 → sProp 𝕄} (h : ∀ x, R 7 ⊢ Φ x) :
    V 5 u ⊢ WP c (k0_part5 (F := F) xM (Memref.isWhole_whole _) tM (Memref.isWhole_whole _) oM (Memref.isWhole_whole _) vM (Memref.isWhole_whole _) qM (Memref.isWhole_whole _) rM (Memref.isWhole_whole _) cS sS rS v2 v5 w (k0_pay11 u)) Φ := by
  obtain ⟨x, hx⟩ := part5_eq (F := F) v2 v5 w (k0_pay11 u)
  rw [hx]
  exact seq (r.store 5 u) (seqv (r.load 6) fun v => seq (r.store 6 v) (done (h x)))
theorem part6 (a : BitVec 32) {Φ : PUnit → sProp 𝕄} (h : R 8 ⊢ Φ ⟨⟩) :
    R 7 ⊢ WP c (k0_part6 (F := F) xM (Memref.isWhole_whole _) tM (Memref.isWhole_whole _) oM (Memref.isWhole_whole _) vM (Memref.isWhole_whole _) qM (Memref.isWhole_whole _) rM (Memref.isWhole_whole _) cS sS rS v2 v5 w a) Φ := by
  rw [part6_eq]
  exact seqv (r.load 7) fun v => seq (r.store 7 v) (done h)
theorem part7 {Φ : PUnit → sProp 𝕄} (h : R 10 ⊢ Φ ⟨⟩) :
    R 8 ⊢ WP c (k0_part7 (F := F) xM (Memref.isWhole_whole _) tM (Memref.isWhole_whole _) oM (Memref.isWhole_whole _) vM (Memref.isWhole_whole _) qM (Memref.isWhole_whole _) rM (Memref.isWhole_whole _) cS sS rS v2 v5 w) Φ := by
  rw [part7_eq]
  exact seqv (r.load 8) fun v => seq (r.store 8 v) (seqv (r.load 9) fun v => seq (r.store 9 v) (done h))
theorem part8 {Φ : PUnit → sProp 𝕄} (h : R 11 ⊢ Φ ⟨⟩) :
    R 10 ⊢ WP c (k0_part8 (F := F) xM (Memref.isWhole_whole _) tM (Memref.isWhole_whole _) oM (Memref.isWhole_whole _) vM (Memref.isWhole_whole _) qM (Memref.isWhole_whole _) rM (Memref.isWhole_whole _) cS sS rS v2 v5 w) Φ := by
  rw [part8_eq]
  exact seqv (r.load 10) fun v => seq (r.store 10 v) (done h)
theorem part9 {Φ : FVec F S256x2048 .bf16 → sProp 𝕄} (h : ∀ v, V 12 v ⊢ Φ (k0_pay19 v)) :
    R 11 ⊢ WP c (k0_part9 (F := F) xM (Memref.isWhole_whole _) tM (Memref.isWhole_whole _) oM (Memref.isWhole_whole _) vM (Memref.isWhole_whole _) qM (Memref.isWhole_whole _) rM (Memref.isWhole_whole _) cS sS rS v2 v5 w) Φ := by
  rw [part9_eq]
  exact seqv (r.load 11) fun v => seq (r.store 11 v) (seqv (r.load 12) fun v => done (h v))
theorem part10 (u : Vec F S1x256x2048 .i8) {Φ : (Σ' (_ : BitVec 32), BitVec 32) → sProp 𝕄} (h : ∀ x, R 14 ⊢ Φ x) :
    V 12 u ⊢ WP c (k0_part10 (F := F) xM (Memref.isWhole_whole _) tM (Memref.isWhole_whole _) oM (Memref.isWhole_whole _) vM (Memref.isWhole_whole _) qM (Memref.isWhole_whole _) rM (Memref.isWhole_whole _) cS sS rS v2 v5 w (k0_pay19 u)) Φ := by
  obtain ⟨x, hx⟩ := part10_eq (F := F) v2 v5 w (k0_pay19 u)
  rw [hx]
  exact seq (r.store 12 u) (seqv (r.load 13) fun v => seq (r.store 13 v) (done (h x)))
theorem part11 (a e : BitVec 32) {Φ : IVec S256x2048 8 → sProp 𝕄} (h : ∀ v, V 15 v ⊢ Φ (k0_pay23 v)) :
    R 14 ⊢ WP c (k0_part11 (F := F) xM (Memref.isWhole_whole _) tM (Memref.isWhole_whole _) oM (Memref.isWhole_whole _) vM (Memref.isWhole_whole _) qM (Memref.isWhole_whole _) rM (Memref.isWhole_whole _) cS sS rS v2 v5 w a e) Φ := by
  rw [part11_eq]
  exact seqv (r.load 14) fun v => seq (r.store 14 v) (seqv (r.load 15) fun v => done (h v))
theorem part12 (u : Vec F S1x256x2048 .i8) {Φ : PUnit → sProp 𝕄} (h : Z 3 ⊢ Φ ⟨⟩) :
    V 15 u ⊢ WP c (k0_part12 (F := F) xM (Memref.isWhole_whole _) tM (Memref.isWhole_whole _) oM (Memref.isWhole_whole _) vM (Memref.isWhole_whole _) qM (Memref.isWhole_whole _) rM (Memref.isWhole_whole _) cS sS rS (k0_pay23 u)) Φ := by
  rw [part12_eq]
  exact seq ((r.store 15 u).trans (wp_mono _ _ _ fun _ => r.turn)) (seq (r.sent 0) (seq (r.sent 1) (seq (r.sent 2) (done h))))
theorem part13 {Φ : PUnit → sProp 𝕄} (h : Z 6 ⊢ Φ ⟨⟩) :
    Z 3 ⊢ WP c (k0_part13 (F := F) xM (Memref.isWhole_whole _) tM (Memref.isWhole_whole _) oM (Memref.isWhole_whole _) vM (Memref.isWhole_whole _) qM (Memref.isWhole_whole _) rM (Memref.isWhole_whole _) cS sS rS) Φ := by
  rw [part13_eq]
  exact seq (r.sent 3) (seq (r.sent 4) (seq (r.sent 5) (done h)))
theorem part14 {Φ : PUnit → sProp 𝕄} (h : Z 10 ⊢ Φ ⟨⟩) :
    Z 6 ⊢ WP c (k0_part14 (F := F) xM (Memref.isWhole_whole _) tM (Memref.isWhole_whole _) oM (Memref.isWhole_whole _) vM (Memref.isWhole_whole _) qM (Memref.isWhole_whole _) rM (Memref.isWhole_whole _) cS sS rS) Φ := by
  rw [part14_eq]
  exact seq (r.sent 6) (seq (r.sent 7) (seq (r.sent 8) (seq (r.sent 9) (done h))))
theorem part15 {Φ : PUnit → sProp 𝕄} (h : Z 14 ⊢ Φ ⟨⟩) :
    Z 10 ⊢ WP c (k0_part15 (F := F) xM (Memref.isWhole_whole _) tM (Memref.isWhole_whole _) oM (Memref.isWhole_whole _) vM (Memref.isWhole_whole _) qM (Memref.isWhole_whole _) rM (Memref.isWhole_whole _) cS sS rS) Φ := by
  rw [part15_eq]
  exact seq (r.sent 10) (seq (r.sent 11) (seq (r.sent 12) (seq (r.sent 13) (done h))))

/-- The rule for the whole ending. -/
theorem drain {Φ : PUnit → sProp 𝕄} (h : Z 16 ⊢ Φ ⟨⟩) : R 0 ⊢ WP c (Exchange.drain (F := F) v2 v5 w) Φ := by
  unfold Exchange.drain
  refine seqv (Q := fun _ => R 1) (r.part1 .rfl) fun _ => ?_
  refine seqv (Q := fun y => iprop(∃ v, ⌜y = k0_pay7 v⌝ ∗ V 2 v)) (r.part2 fun v => ?_) fun y => ?_
  · iintro H; iexists v; isplitr; · ipureintro; rfl
    iexact H
  iintro ⟨%v, %hy, H⟩
  subst hy
  iapply (show V 2 v ⊢ _ from ?_) $$ H
  refine seqv (Q := fun _ => R 4) (r.part3 v fun _ => .rfl) fun _ => ?_
  refine seqv (Q := fun y => iprop(∃ v, ⌜y = k0_pay11 v⌝ ∗ V 5 v)) (r.part4 _ _ fun v => ?_) fun y => ?_
  · iintro H; iexists v; isplitr; · ipureintro; rfl
    iexact H
  iintro ⟨%v, %hy, H⟩
  subst hy
  iapply (show V 5 v ⊢ _ from ?_) $$ H
  refine seqv (Q := fun _ => R 7) (r.part5 v fun _ => .rfl) fun _ => seqv (Q := fun _ => R 8) (r.part6 _ .rfl) fun _ => seqv (Q := fun _ => R 10) (r.part7 .rfl) fun _ => seqv (Q := fun _ => R 11) (r.part8 .rfl) fun _ => ?_
  refine seqv (Q := fun y => iprop(∃ v, ⌜y = k0_pay19 v⌝ ∗ V 12 v)) (r.part9 fun v => ?_) fun y => ?_
  · iintro H; iexists v; isplitr; · ipureintro; rfl
    iexact H
  iintro ⟨%v, %hy, H⟩
  subst hy
  iapply (show V 12 v ⊢ _ from ?_) $$ H
  refine seqv (Q := fun _ => R 14) (r.part10 v fun _ => .rfl) fun _ => ?_
  refine seqv (Q := fun y => iprop(∃ v, ⌜y = k0_pay23 v⌝ ∗ V 15 v)) (r.part11 _ _ fun v => ?_) fun y => ?_
  · iintro H; iexists v; isplitr; · ipureintro; rfl
    iexact H
  iintro ⟨%v, %hy, H⟩
  subst hy
  iapply (show V 15 v ⊢ _ from ?_) $$ H
  refine seqv (Q := fun _ => Z 3) (r.part12 v .rfl) fun _ => seqv (Q := fun _ => Z 6) (r.part13 .rfl) fun _ => seqv (Q := fun _ => Z 10) (r.part14 .rfl) fun _ => seqv (Q := fun _ => Z 14) (r.part15 .rfl) fun _ => ?_
  exact seq (r.sent 14) (seq (r.sent 15) (done h))

end Drain

end Cert.KernelIdeal.Exchange

end
-- ==== Proof.KernelIdealChunks.lean ====
/-
The sixteen chunks of a block: which elements each has, how a buffer is held chunk by chunk, and what the
steps' loads, stores and transfers do to a chunk's contents.
-/
module

public import proofs.«01_k».proof.Proof.KernelIdealShape
public import Idealize.ShloMosaic.Lib.Ring
public import Idealize.ShloMosaic.Lib.Pipeline.Value
public import Idealize.ShloMosaic.Lib.SparseCore.ProtocolKit

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values, element by element -/

/-- Chunk `k` of a block. -/
def part {α : Type} (k : Fin 16) (G : S1x4096x2048.Idx → α) : S1x256x2048.Idx → α := fun x => G ((rB k).emb x)

/-- An element quantised for the wire, an element kept, an element off the wire. -/
def qelt (a : F .f32) : BitVec 8 :=
  FloatOps.fptosi 8 (FloatOps.minimumf (Scalar.ofBits .f32 0x42FE0000#32) (FloatOps.maximumf (Scalar.ofBits .f32 0xC2FE0000#32)
    (FloatOps.roundeven (FloatOps.mulf a (Scalar.ofBits .f32 0x41A95555#32)))))
/-- An element stored directly. -/
def kelt (a : F .f32) : F .bf16 := FloatOps.truncf .bf16 bitsLt_bf16_f32 a
/-- An element read back from an 8-bit word. -/
def delt (a : BitVec 8) : F .bf16 :=
  FloatOps.truncf .bf16 bitsLt_bf16_f32 (FloatOps.mulf (FloatOps.sitofp .f32 a) (Scalar.ofBits .f32 0x3D418306#32))

theorem there_back (x : S1x256x2048.Idx) :
    Shape.reshapeEquiv shapeCasts_S1x256x2048_S256x2048 (Shape.reshapeEquiv shapeCasts_S256x2048_S1x256x2048 x) = x := by
  rw [Shape.reshapeEquiv_reshapeEquiv, Shape.reshapeEquiv_self]

/-- The conversions of a chunk are made element by element. -/
theorem quant_eq (v : Vec F S1x256x2048 .f32) : quant v = fun x => qelt (v x) := by
  funext x; exact congrArg (fun y => qelt (v y)) (there_back x)
theorem keep_eq (v : Vec F S1x256x2048 .f32) : keep v = fun x => kelt (v x) := by
  funext x; exact congrArg (fun y => kelt (v y)) (there_back x)
theorem dequant_eq (v : Vec F S1x256x2048 .i8) : dequant v = fun x => delt (v x) := by
  funext x; exact congrArg (fun y => delt (v y)) (there_back x)

/-! ## The elements of the chunks -/

/-- Two chunks have no element in common. -/
theorem chunk_disj (k k' : Fin 16) (h : k ≠ k') : Disjoint (rB k).set (rB k').set := by
  refine Rect.disjoint_of_separated _ _ (1 : Fin 3) ?_
  have : k.val ≠ k'.val := fun e => h (Fin.ext e)
  rcases Nat.lt_or_gt_of_ne this with h | h
  · exact Or.inl (Or.inr (by show 256 * k.val + 1 * (256 - 1) < 256 * k'.val; omega))
  · exact Or.inr (Or.inr (by show 256 * k'.val + 1 * (256 - 1) < 256 * k.val; omega))

/-- The chunks together are the whole block. -/
theorem chunk_cover : Finset.univ.biUnion (fun k : Fin 16 => (rB k).set) = (Finset.univ : Finset S1x4096x2048.Idx) := by
  ext i
  simp only [Finset.mem_biUnion, Finset.mem_univ, true_and, iff_true]
  have h0 : (i 0 : Nat) < 1 := (i 0).isLt
  have h1 : (i 1 : Nat) < 4096 := (i 1).isLt
  have h2 : (i 2 : Nat) < 2048 := (i 2).isLt
  refine ⟨⟨(i 1 : Nat) / 256, by omega⟩, Rect.mem_set_unit.mpr fun a => ?_⟩
  fin_cases a
  · show 0 ≤ (i 0 : Nat) ∧ (i 0 : Nat) < 0 + 1; omega
  · show 256 * ((i 1 : Nat) / 256) ≤ (i 1 : Nat) ∧ (i 1 : Nat) < 256 * ((i 1 : Nat) / 256) + 256; omega
  · show 0 ≤ (i 2 : Nat) ∧ (i 2 : Nat) < 0 + 2048; omega

/-- The two halves of the double buffer have no element in common. -/
theorem half_disj (j j' : Fin 2) (h : j ≠ j') : Disjoint (rV j).set (rV j').set := by
  refine Rect.disjoint_of_separated _ _ (0 : Fin 3) ?_
  have : j.val ≠ j'.val := fun e => h (Fin.ext e)
  rcases Nat.lt_or_gt_of_ne this with h | h
  · exact Or.inl (Or.inr (by show j.val + 1 * (1 - 1) < j'.val; omega))
  · exact Or.inr (Or.inr (by show j'.val + 1 * (1 - 1) < j.val; omega))

/-- The two halves together are the whole double buffer. -/
theorem half_cover : Finset.univ.biUnion (fun j : Fin 2 => (rV j).set) = (Finset.univ : Finset S2x256x2048.Idx) := by
  ext i
  simp only [Finset.mem_biUnion, Finset.mem_univ, true_and, iff_true]
  have h0 : (i 0 : Nat) < 2 := (i 0).isLt
  have h1 : (i 1 : Nat) < 256 := (i 1).isLt
  have h2 : (i 2 : Nat) < 2048 := (i 2).isLt
  refine ⟨⟨(i 0 : Nat), h0⟩, Rect.mem_set_unit.mpr fun a => ?_⟩
  fin_cases a
  · show (i 0 : Nat) ≤ (i 0 : Nat) ∧ (i 0 : Nat) < (i 0 : Nat) + 1; omega
  · show 0 ≤ (i 1 : Nat) ∧ (i 1 : Nat) < 0 + 256; omega
  · show 0 ≤ (i 2 : Nat) ∧ (i 2 : Nat) < 0 + 2048; omega

/-- Each view of a chunk has the elements of the chunk. -/
theorem xC_set (k : Fin 16) : (xC k).view.set = (rB k).set := (View.set_reshape _ _).trans (View.set_slice_whole _ _)
theorem qC_set (k : Fin 16) : (qC k).view.set = (rB k).set := (View.set_reshape _ _).trans (View.set_slice_whole _ _)
theorem rC_set (k : Fin 16) : (rC k).view.set = (rB k).set := (View.set_reshape _ _).trans (View.set_slice_whole _ _)
theorem vC_set (j : Fin 2) : (vC j).view.set = (rV j).set := (View.set_reshape _ _).trans (View.set_slice_whole _ _)

/-- An element of a chunk has a place inside it. -/
theorem mem_chunk {k : Fin 16} {i : S1x4096x2048.Idx} (h : i ∈ (rB k).set) : ∃ x, (rB k).emb x = i := by
  rw [← Rect.map_emb_univ] at h
  obtain ⟨x, _, hx⟩ := Finset.mem_map.mp h
  exact ⟨x, hx⟩

/-! ## Holding a buffer chunk by chunk -/

section Hold
variable (c : Dev nD)

/-- Chunk `k` of the block of `x`, of the sent block, of the received block, of the result, and half `j` of the double
    buffer, with the contents `f`. -/
abbrev xPts (k : Fin 16) (f : Buf (Elt F) ((c : Thread nD τ).loc main_arg0)) : sProp 𝕄 := ((c : Thread nD τ).loc main_arg0) ↦[(rB k).set]{fullShare} f
abbrev qPts (k : Fin 16) (f : Buf (Elt F) ((c : Thread nD τ).loc cc0_scratch1)) : sProp 𝕄 := ((c : Thread nD τ).loc cc0_scratch1) ↦[(rB k).set]{fullShare} f
abbrev rPts (k : Fin 16) (f : Buf (Elt F) ((c : Thread nD τ).loc cc0_scratch2)) : sProp 𝕄 := ((c : Thread nD τ).loc cc0_scratch2) ↦[(rB k).set]{fullShare} f
abbrev oPts (k : Fin 16) (f : Buf (Elt F) ((c : Thread nD τ).loc cc0_stg1_0)) : sProp 𝕄 := ((c : Thread nD τ).loc cc0_stg1_0) ↦[(rB k).set]{fullShare} f
abbrev vPts (j : Fin 2) (f : Buf (Elt F) ((c : Thread nD τ).loc cc0_scratch0)) : sProp 𝕄 := ((c : Thread nD τ).loc cc0_scratch0) ↦[(rV j).set]{fullShare} f

omit [FloatOps F] in
theorem xPts_all (f : Buf (Elt F) ((c : Thread nD τ).loc main_arg0)) :
    (((c : Thread nD τ).loc main_arg0) ↦{fullShare} f : sProp 𝕄) = bigSep Finset.univ fun k => xPts c k f :=
  Ring.pointsTo_sub_blocks (ℓ := (c : Thread nD τ).loc main_arg0) (fun k => (rB k).set) (fun _ _ h => chunk_disj _ _ h) Finset.univ chunk_cover f
omit [FloatOps F] in
theorem qPts_all (f : Buf (Elt F) ((c : Thread nD τ).loc cc0_scratch1)) :
    (((c : Thread nD τ).loc cc0_scratch1) ↦{fullShare} f : sProp 𝕄) = bigSep Finset.univ fun k => qPts c k f :=
  Ring.pointsTo_sub_blocks (ℓ := (c : Thread nD τ).loc cc0_scratch1) (fun k => (rB k).set) (fun _ _ h => chunk_disj _ _ h) Finset.univ chunk_cover f
omit [FloatOps F] in
theorem rPts_all (f : Buf (Elt F) ((c : Thread nD τ).loc cc0_scratch2)) :
    (((c : Thread nD τ).loc cc0_scratch2) ↦{fullShare} f : sProp 𝕄) = bigSep Finset.univ fun k => rPts c k f :=
  Ring.pointsTo_sub_blocks (ℓ := (c : Thread nD τ).loc cc0_scratch2) (fun k => (rB k).set) (fun _ _ h => chunk_disj _ _ h) Finset.univ chunk_cover f
omit [FloatOps F] in
theorem oPts_all (f : Buf (Elt F) ((c : Thread nD τ).loc cc0_stg1_0)) :
    (((c : Thread nD τ).loc cc0_stg1_0) ↦{fullShare} f : sProp 𝕄) = bigSep Finset.univ fun k => oPts c k f :=
  Ring.pointsTo_sub_blocks (ℓ := (c : Thread nD τ).loc cc0_stg1_0) (fun k => (rB k).set) (fun _ _ h => chunk_disj _ _ h) Finset.univ chunk_cover f
omit [FloatOps F] in
theorem vPts_all (f : Buf (Elt F) ((c : Thread nD τ).loc cc0_scratch0)) :
    (((c : Thread nD τ).loc cc0_scratch0) ↦{fullShare} f : sProp 𝕄) = bigSep Finset.univ fun j => vPts c j f :=
  Ring.pointsTo_sub_blocks (ℓ := (c : Thread nD τ).loc cc0_scratch0) (fun j => (rV j).set) (fun _ _ h => half_disj _ _ h) Finset.univ half_cover f
/-- Both halves, each with some contents, are the double buffer with some contents. -/
theorem vPts_join : iprop((∃ f, vPts (F := F) c 0 f) ∗ (∃ f, vPts (F := F) c 1 f)) ⊢ (iprop(∃ f, ((c : Thread nD τ).loc cc0_scratch0) ↦{fullShare} f) : sProp 𝕄) := by
  refine (Entails.of_eq (bigSep_fin_two (fun j : Fin 2 => iprop(∃ f, vPts (F := F) c j f))).symm).trans ?_
  exact Ring.pointsTo_sub_blocks_join_exists (ℓ := (c : Thread nD τ).loc cc0_scratch0) (fun j : Fin 2 => (rV j).set) (fun _ _ h => half_disj _ _ h)
    Finset.univ half_cover (fun _ => (Scalar.ofBits .f32 0#32 : F .f32))
end Hold

/-! ## What the steps do to a chunk -/

/-- A half of the double buffer holds chunk `k` of `X`. -/
def Holds (j : Fin 2) (k : Fin 16) (X : S1x4096x2048.Idx → F .f32) (f : S2x256x2048.Idx → F .f32) : Prop :=
  ∀ x, f ((rV j).emb x) = part k X x

/-- The copy of chunk `k` leaves it in the half it is copied to. -/
theorem holds_copy (j : Fin 2) (k : Fin 16) (X : S1x4096x2048.Idx → F .f32) (f : S2x256x2048.Idx → F .f32) :
    Holds j k X ((vC j).view.write (Elt F) f ((xC k).view.read (Elt F) X) Finset.univ) := fun x => by
  obtain ⟨y, rfl⟩ := (Shape.reshapeEquiv (s := S1x256x2048) (s' := S256x2048) shapeCasts_S1x256x2048_S256x2048).surjective x
  exact (View.write_emb_of_mem (v := (vC j).view) (Val := Elt F) f _ (Finset.mem_univ y)).trans rfl

/-- Reading a half that holds chunk `k`, reading a chunk of the received block. -/
theorem read_half {j : Fin 2} {k : Fin 16} {X : S1x4096x2048.Idx → F .f32} {f : S2x256x2048.Idx → F .f32} (h : Holds j k X f) :
    (vM : Memref sig .tc .vmem S2x256x2048 .f32).view.readAt (Elt F) (rV j).toLoadRect f = part k X := funext h
/-- What a load of a received chunk reads. -/
theorem read_recv (k : Fin 16) (f : S1x4096x2048.Idx → BitVec 8) :
    (rM : Memref sig .tc .vmem S1x4096x2048 .i8).view.readAt (Elt F) (rB k).toLoadRect f = part k f := rfl

/-- Storing the chunk `k` of `G` over a chunk of the sent block, or of the result. -/
theorem write_send (k : Fin 16) (f G : S1x4096x2048.Idx → BitVec 8) : ∀ i ∈ (rB k).set,
    ((qM : Memref sig .tc .vmem S1x4096x2048 .i8).access (rB k)).write (Elt F) f (part k G) Finset.univ i = G i := fun i hi => by
  obtain ⟨x, rfl⟩ := mem_chunk hi
  exact (View.write_emb_of_mem (v := (qM.access (rB k))) (Val := Elt F) f _ (Finset.mem_univ x)).trans rfl
/-- What a store of a chunk leaves in the result. -/
theorem write_out (k : Fin 16) (f G : S1x4096x2048.Idx → F .bf16) : ∀ i ∈ (rB k).set,
    ((oM : Memref sig .tc .vmem S1x4096x2048 .bf16).access (rB k)).write (Elt F) f (part k G) Finset.univ i = G i := fun i hi => by
  obtain ⟨x, rfl⟩ := mem_chunk hi
  exact (View.write_emb_of_mem (v := (oM.access (rB k))) (Val := Elt F) f _ (Finset.mem_univ x)).trans rfl

/-- The transfer of chunk `k` leaves in the receiver's chunk what the sender's held. -/
theorem write_recv (k : Fin 16) (f G : S1x4096x2048.Idx → BitVec 8) : ∀ i ∈ (rB k).set,
    (rC k).view.write (Elt F) f ((qC k).view.read (Elt F) G) Finset.univ i = G i := fun i hi => by
  obtain ⟨x, rfl⟩ := mem_chunk hi
  obtain ⟨y, rfl⟩ := (Shape.reshapeEquiv (s := S1x256x2048) (s' := S256x2048) shapeCasts_S1x256x2048_S256x2048).surjective x
  exact (View.write_emb_of_mem (v := (rC k).view) (Val := Elt F) f _ (Finset.mem_univ y)).trans rfl

/-- The whole arrays the chunks are chunks of: a block quantised, a block kept, a block off the wire. -/
def quantAll (X : S1x4096x2048.Idx → F .f32) : S1x4096x2048.Idx → BitVec 8 := fun i => qelt (X i)
/-- A whole block stored directly. -/
def keepAll (X : S1x4096x2048.Idx → F .f32) : S1x4096x2048.Idx → F .bf16 := fun i => kelt (X i)
/-- A whole block read back from 8-bit words. -/
def dequantAll (Y : S1x4096x2048.Idx → BitVec 8) : S1x4096x2048.Idx → F .bf16 := fun i => delt (Y i)

/-- Converting a chunk of a block is taking the chunk of the converted block. -/
theorem quant_part (k : Fin 16) (X : S1x4096x2048.Idx → F .f32) : quant (part k X) = part k (quantAll X) := quant_eq _
theorem keep_part (k : Fin 16) (X : S1x4096x2048.Idx → F .f32) : keep (part k X) = part k (keepAll X) := keep_eq _
theorem dequant_part (k : Fin 16) (Y : S1x4096x2048.Idx → BitVec 8) : dequant (F := F) (part k Y) = part k (dequantAll Y) := dequant_eq _

end Cert.KernelIdeal.Exchange

end
-- ==== Proof.KernelIdealProtocol.lean ====
/-
Who talks to whom, and what is handed over: the partner of a device, what the table says, the cells of the
handshake and of the transfers, their schedule, what a device owes at launch and the levels that order the waits.

Everything is stated for either table at once: `sw` says whether the table swaps the two blocks. Where it does not,
no cell has a duty and no device owes anything.
-/
module

public import proofs.«01_k».proof.Proof.KernelIdealChunks

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo)

variable {F : FTy → Type} [FloatOps F]

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance
abbrev EC : UEmb Counters (MT nD τ sig Unit (Elt F) ℕ UU ℕ) := countersEmb

/-! ## The partner, and the table -/

set_option backward.proofsInPublic true in
/-- The device at the other end of axis `z`: that holds the other block. -/
def peer (c : Dev nD) : Dev nD := ⟨4 * (c.val / 4 % 2) + 2 * (c.val / 2 % 2) + (1 - c.val % 2), by
  have : nD = 8 := rfl
  have h := c.isLt; omega⟩

/-- The partner of the partner is the device itself, and no device is its own partner. -/
theorem peer_peer (c : Dev nD) : peer (peer c) = c := by revert c; decide
theorem peer_ne (c : Dev nD) : peer c ≠ c := by revert c; decide
def peers : Dev nD ≃ Dev nD := ⟨peer, peer, peer_peer, peer_peer⟩

/-- The table's word for device `c`'s block: the other block's number where the table swaps, its own where it does not. -/
def word (sw : Bool) (c : Dev nD) : BitVec 32 := if sw then BitVec.ofNat 32 (1 - c.val % 2) else BitVec.ofNat 32 (c.val % 2)

/-- The flag the body computes from it. -/
def flag (sw : Bool) : BitVec 1 := if sw then 1#1 else 0#1

/-- The conditions and device numbers that the body computes from the table's word, for either table. -/
theorem word_chk : ∀ (sw : Bool) (c : Dev nD), k0_chk1 c (word sw c) := by decide +kernel
theorem cond1_swap : ∀ c : Dev nD, k0_cond1 c (word true c) = 1#1 := by decide +kernel
theorem cond2_swap : ∀ c : Dev nD, k0_cond2 c (word true c) = 1#1 := by decide +kernel
theorem cond1_stay : ∀ c : Dev nD, ¬ k0_cond1 c (word false c) = 1#1 := by decide +kernel
theorem cond2_stay : ∀ c : Dev nD, ¬ k0_cond2 c (word false c) = 1#1 := by decide +kernel
theorem dev1_swap : ∀ c : Dev nD, k0_dev1 c (word true c) = (peer c).val := by decide +kernel
theorem dev2_swap : ∀ c : Dev nD, k0_dev2 c (word true c) = (peer c).val := by decide +kernel
theorem flag_eq : ∀ (sw : Bool) (c : Dev nD),
    Scalar.cmpi .ne (word sw c) (Scalar.remsi (Scalar.divsi (Dev.word c) 1#32) 2#32) = flag sw := by decide +kernel

/-! ## The cells -/

/-- The kinds of cell the devices share: the barrier, the end of a transfer at its sender, and at its receiver. -/
abbrev Kd : Type := Option (Fin 16 ⊕ Fin 16)
abbrev kSend (k : Fin 16) : Kd := some (.inl k)
abbrev kRecv (k : Fin 16) : Kd := some (.inr k)

abbrev ksem : Kd → SemLoc sig
  | none => .reg barS
  | some (.inl k) => .dma (sSem k)
  | some (.inr k) => .dma (rSem k)

theorem ksem_inj : Function.Injective ksem := by decide +kernel

/-- A device's cell of each kind. -/
abbrev kcell (ck : Dev nD × Kd) : GSem nD τ sig := ((ck.1 : Thread nD τ), ksem ck.2)

/-- Different devices or kinds have different cells. -/
theorem kcell_inj : Function.Injective kcell := by
  rintro ⟨c, κ⟩ ⟨c', κ'⟩ h
  have h1 : c = c' := congrArg (fun g : GSem nD τ sig => g.1.1) h
  have h2 : κ = κ' := ksem_inj (congrArg Prod.snd h)
  rw [h1, h2]

/-- Which kind a semaphore is, if any. -/
def kindOf (s : SemLoc sig) : Option Kd := open Classical in if h : ∃ κ, ksem κ = s then some h.choose else none

/-- The kind of a shared semaphore, and that the others have none. -/
theorem kindOf_ksem (κ : Kd) : kindOf (ksem κ) = some κ := by
  have h : ∃ κ', ksem κ' = ksem κ := ⟨κ, rfl⟩
  unfold kindOf; rw [dif_pos h, ksem_inj h.choose_spec]
theorem kindOf_none {s : SemLoc sig} (h : ∀ κ, ksem κ ≠ s) : kindOf s = none := by
  unfold kindOf; rw [dif_neg (fun ⟨κ, e⟩ => h κ e)]

/-- The credit of a transferred chunk, of a copied chunk. -/
abbrev N : ℕ := (rC 0).view.dmaCredit
abbrev NC : ℕ := (vC 0).view.dmaCredit
theorem N_pos : 0 < N := View.dmaCredit_pos _ (by decide)
theorem NC_pos : 0 < NC := View.dmaCredit_pos _ (by decide)

/-! ## The schedule -/

variable (m : (ℓ : Loc nD τ sig) → Buf (Elt F) ℓ)

/-- Device `c`'s block of `x`, and what its partner sends it. -/
abbrev xOf (c : Dev nD) : S1x4096x2048.Idx → F .f32 := m ((c : Thread nD τ).loc main_arg0)
abbrev sentOf (c : Dev nD) : S1x4096x2048.Idx → BitVec 8 := quantAll (xOf m c)

/-- What pays each kind of cell of device `c` hands it: its partner's signal the partner's buffer for what is to be
    received; a transfer that has left the chunk it was read from; one that has arrived the chunk it was written to. -/
def pay (c : Dev nD) : Kd → sProp 𝕄
  | none => iprop(∃ f, ((peer c : Thread nD τ).loc cc0_scratch2) ↦{fullShare} f)
  | some (.inl k) => qPts c k (sentOf m c)
  | some (.inr k) => rPts c k (sentOf m (peer c))

instance pay_storable (c : Dev nD) (κ : Kd) : BI.Storable (upEmb : UEmb _ 𝕄) (pay m c κ) := by
  rcases κ with _ | k | k <;> (unfold pay; infer_instance)

def amt : Kd → ℕ
  | none => 1
  | some _ => N

/-- One round: each shared cell has one duty, if the table swaps. -/
def rd (sw : Bool) : Rounds.Schedule (GSem nD τ sig) Unit 𝕄 where
  duties g r := if sw = true ∧ r = 0 ∧ g.1.2 = .tc ∧ (kindOf g.2).isSome then {()} else ∅
  unitless _ := False
  amount g _ _ := match kindOf g.2 with
    | some κ => amt κ
    | none => 1
  payload g _ _ := match kindOf g.2 with
    | some κ => pay m g.1.1 κ
    | none => iprop(emp)
  amount_pos g _ _ _ := by
    rcases kindOf g.2 with _ | _ | _
    · exact Nat.one_pos
    · exact Nat.one_pos
    · exact N_pos

instance rd_storable (sw : Bool) (g : GSem nD τ sig) (r : ℕ) (d : Unit) : BI.Storable (upEmb : UEmb _ 𝕄) ((rd m sw).payload g r d) := by
  show BI.Storable upEmb (match kindOf g.2 with | some κ => pay m g.1.1 κ | none => iprop(emp))
  rcases kindOf g.2 with _ | κ <;> infer_instance

/-- The schedule read at a shared cell: one duty in round 0, its amount, and what it hands over. -/
theorem duties_kcell (c : Dev nD) (κ : Kd) : (rd m true).duties (kcell (c, κ)) 0 = {()} := by
  dsimp only [rd]; rw [kindOf_ksem]; exact if_pos ⟨rfl, rfl, rfl, rfl⟩
theorem mem_duties (c : Dev nD) (κ : Kd) : () ∈ (rd m true).duties (kcell (c, κ)) 0 := by
  rw [duties_kcell]; exact Finset.mem_singleton_self _
theorem duties_none (sw : Bool) (g : GSem nD τ sig) (R : ℕ) (h : sw = true → R = 1) : ∀ r, R ≤ r → (rd m sw).duties g r = ∅ :=
  fun r hr => by dsimp only [rd]; exact if_neg fun ⟨hs, h0, _⟩ => by have := h hs; omega
theorem amount_kcell (sw : Bool) (c : Dev nD) (κ : Kd) (d : Unit) : (rd m sw).amount (kcell (c, κ)) 0 d = amt κ := by
  dsimp only [rd]; rw [kindOf_ksem]
theorem payload_kcell (sw : Bool) (c : Dev nD) (κ : Kd) (d : Unit) : (rd m sw).payload (kcell (c, κ)) 0 d = pay m c κ := by
  dsimp only [rd]; rw [kindOf_ksem]
theorem expect_kcell (c : Dev nD) (κ : Kd) : (rd m true).expect (kcell (c, κ)) 0 = amt κ := by
  unfold Schedule.expect Schedule.amountOf; rw [duties_kcell, Finset.sum_singleton, amount_kcell]
theorem rest_kcell (c : Dev nD) (κ : Kd) :
    bigSep ((rd m true).duties (kcell (c, κ)) 0 \ ∅) (fun d => (rd m true).payload (kcell (c, κ)) 0 d) = pay m c κ := by
  rw [Finset.sdiff_empty, duties_kcell, bigSep_singleton, payload_kcell]

/-! ## What a device owes, and the levels -/

/-- What device `c` owes from its transfer `s` on: the credit of each chunk its partner is still to receive. -/
def owedFrom (c : Dev nD) (s : ℕ) : CellTallies nD τ sig Unit := ∑ k ∈ finFrom 16 s, tallyAt (kcell (peer c, kRecv k)) () N
/-- At launch it owes also a unit on its partner's barrier. -/
def owed₀ (sw : Bool) (c : Dev nD) : CellTallies nD τ sig Unit :=
  if sw then owedFrom c 0 + tallyAt (kcell (peer c, none)) () 1 else 0

def L (g : GSem nD τ sig) : Finset Unit := if g.1.2 = .tc then {()} else ∅
/-- A receiver's cell is above a barrier, a barrier above everything else. -/
def lv (g : GSem nD τ sig) (_ : Unit) : ℕ := match kindOf g.2 with
  | some none => 1
  | some (some (.inr _)) => 2
  | _ => 0

/-- The tables of levels read at a cell. -/
theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) (u : Unit) : lv (kcell (c, none)) u = 1 := by
  unfold lv; rw [show kindOf (kcell (c, none)).2 = some (none) from kindOf_ksem (none)]
theorem lv_recv (c : Dev nD) (k : Fin 16) (u : Unit) : lv (kcell (c, kRecv k)) u = 2 := by
  unfold lv; rw [show kindOf (kcell (c, kRecv k)).2 = some (kRecv k) from kindOf_ksem (kRecv k)]
theorem lv_send (c : Dev nD) (k : Fin 16) (u : Unit) : lv (kcell (c, kSend k)) u = 0 := by
  unfold lv; rw [show kindOf (kcell (c, kSend k)).2 = some (kSend k) from kindOf_ksem (kSend k)]

/-- Everything owed lies above level `n`. -/
def Above (n : ℕ) (O : CellTallies nD τ sig Unit) : Prop := ∀ g u, 0 < O g u → g.1.2 = .tc ∧ n < lv g u

/-- What is owed lies above a level: the cases. -/
theorem above_zero (n : ℕ) : Above n 0 := fun g u h => absurd h (Nat.lt_irrefl 0)
theorem above_tally {n : ℕ} {g : GSem nD τ sig} {a : ℕ} (hg : g.1.2 = .tc) (hn : n < lv g ()) : Above n (tallyAt g () a) := fun g' u h => by
  rw [tallyAt_apply] at h
  by_cases e : g' = g ∧ u = ()
  · rw [e.1]; exact ⟨hg, hn⟩
  · rw [if_neg e] at h; exact absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
theorem above_owedFrom (c : Dev nD) (s : ℕ) : Above 1 (owedFrom c s) := by
  unfold owedFrom
  refine Finset.sum_induction _ (Above 1) (fun _ _ => above_add) (above_zero 1) fun k _ => above_tally rfl ?_
  rw [lv_recv]; decide
theorem above_mono {n n' : ℕ} (hn : n ≤ n') {O : CellTallies nD τ sig Unit} (h : Above n' O) : Above n O :=
  fun g u hg => ⟨(h g u hg).1, Nat.lt_of_le_of_lt hn (h g u hg).2⟩
theorem above_owed₀ (sw : Bool) (c : Dev nD) : Above 0 (owed₀ sw c) := by
  unfold owed₀
  cases sw
  · exact above_zero 0
  · exact above_add (above_mono (Nat.zero_le 1) (above_owedFrom c 0)) (above_tally rfl (by rw [lv_bar]; decide))

/-- A device may wait on a semaphore of its own below everything it owes. -/
theorem mayWait (c : Dev nD) (s : SemLoc sig) (O : CellTallies nD τ sig Unit) (h : Above (lv ((c : Thread nD τ), s) ()) O) :
    (levAts L lv : sProp 𝕄) ⊢ MayWait (c : Thread nD τ) s () O :=
  MayOwe.of_cut (L := L) (lev := lv) (lv ((c : Thread nD τ), s) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- The semaphores of the local copies are not shared ones, and their waits are of the lowest level. -/
theorem copy_not_shared : ∀ (j : Fin 2) (κ : Kd), ksem κ ≠ .dma (cSem j) := by decide +kernel
theorem lv_copy (c : Dev nD) (j : Fin 2) : lv ((c : Thread nD τ), .dma (cSem j)) () = 0 := by
  unfold lv; rw [kindOf_none (copy_not_shared j)]

end Cert.KernelIdeal.Exchange

end
-- ==== Proof.KernelIdealCopy.lean ====
/-
The double-buffered copies of a block of `x` into VMEM, chunk by chunk: while the chunk at hand is worked on the
next one's copy is in flight. What a device does with a chunk is left open (`Work`); from it the rule for all
sixteen chunks follows.
-/
module

public import proofs.«01_k».proof.Proof.KernelIdealProtocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

/-! ## One copy -/

section Copy
variable (c : Dev nD) (X : S1x4096x2048.Idx → F .f32)

/-- A half of the double buffer that no copy uses. -/
def free (j : Fin 2) : sProp 𝕄 := iprop((∃ f, vPts (F := F) c j f) ∗ semVal ((c : Thread nD τ), SemLoc.dma (cSem j)) 0)
/-- Chunk `k` is in its half. -/
def loaded (k : Fin 16) : sProp 𝕄 :=
  iprop((∃ f, ⌜Holds (half k) k X f⌝ ∗ vPts (F := F) c (half k) f) ∗ semVal ((c : Thread nD τ), SemLoc.dma (cSem (half k))) 0)
/-- Chunk `k` is on its way to its half. -/
def flying (k : Fin 16) : sProp 𝕄 :=
  Transfers.Flight EC (c : Thread nD τ) (.dma (cSem (half k))) () NC iprop((∃ f, ⌜Holds (half k) k X f⌝ ∗ vPts (F := F) c (half k) f) ∗ xPts c k X)
/-- What the device owes when it has sent the chunks before `s`, `Od s`, and the order of the waits. -/
def debt (Od : ℕ → CellTallies nD τ sig Unit) (s : ℕ) : sProp 𝕄 := iprop((∃ W, owes (c : Thread nD τ) (Od s) W) ∗ levAts L lv)

/-- A loaded half is free once its contents are not needed. -/
theorem loaded_free (k : Fin 16) : loaded c X k ⊢ free (F := F) c (half k) := by
  unfold loaded free
  iintro ⟨⟨%f, _, H⟩, Hs⟩
  isplitl [H]
  · iexists f; iexact H
  · iexact Hs

/-- The copy of chunk `k` starts. -/
theorem wp_enq (k : Fin 16) : iprop(free (F := F) c (half k) ∗ xPts c k X) ⊢ WP c (enqStep k) (fun _ => flying c X k) := by
  unfold free WP enqStep
  iintro ⟨⟨⟨%f, Hv⟩, Hs⟩, Hx⟩
  iapply (Transfers.wp_dmaLocal EC 𝒱₀ (c : Thread nD τ) none (src := xC k) (dst := vC (half k)) (sm := .dma (cSem (half k))) (fs := X) (fd := f) (q := fullShare)
    (Sd := (rV (half k)).set) () NC rfl NC_pos (by rw [vC_set])) $$ [Hv Hs Hx]
  · isplitl [Hx]
    · rw [xC_set]; iexact Hx
    isplitl [Hv]
    · iexact Hv
    · iexact Hs
  iintro Hf
  iapply (le_wp_ret _ _ _ PUnit.unit _)
  unfold flying
  iapply (Transfers.Flight_mono EC (c : Thread nD τ) ?_) $$ Hf
  iintro ⟨Hv, Hx⟩
  isplitl [Hv]
  · iexists _
    isplitr
    · ipureintro; exact holds_copy (half k) k X f
    · iexact Hv
  · rw [xC_set]; iexact Hx

/-- The wait for the copy of chunk `k`. -/
theorem wp_arrive (Od : ℕ → CellTallies nD τ sig Unit) (s : ℕ) (hO : Above 0 (Od s)) (k : Fin 16) :
    iprop(flying c X k ∗ debt c Od s) ⊢ WP c (waitStep k) (fun _ => iprop(loaded c X k ∗ xPts c k X ∗ debt c Od s)) := by
  unfold flying debt WP waitStep
  iintro ⟨Hf, ⟨%W, HO⟩, #Hl⟩
  iapply (Transfers.wp_waitLocalO EC 𝒱₀ (c : Thread nD τ) none (srcw := xC k) (dstw := vC (half k)) (O := Od s) (W := W) () (N := NC) rfl) $$ [Hf HO]
  · isplitl [Hf]; · iexact Hf
    isplitl [HO]; · iexact HO
    iapply (mayWait c _ (Od s) (by rw [lv_copy]; exact hO)) $$ Hl
  iintro ⟨⟨Hv, Hx⟩, Hs, HO⟩
  iapply (le_wp_ret _ _ _ PUnit.unit _)
  unfold loaded
  isplitl [Hv Hs]
  · isplitl [Hv] <;> iassumption
  isplitl [Hx]; · iexact Hx
  isplitl [HO]
  · iexists _; iexact HO
  · iexact Hl

end Copy

/-! ## The sixteen chunks -/

section Chunks
variable (c : Dev nD) (X : S1x4096x2048.Idx → F .f32) (w : BitVec 32) (hw : k0_chk1 c w) (b : BitVec 1)
  (Od : ℕ → CellTallies nD τ sig Unit) (T : ℕ → sProp (MT nD τ sig Unit (Elt F) ℕ UU ℕ)) (U : ℕ → sProp (MT nD τ sig Unit (Elt F) ℕ UU ℕ))

/-- What the device does with a chunk once it is in its half: `T s` is what it holds for the chunks when it has
    finished those before `s`, `U s` what it holds between sending chunk `s` and keeping it. -/
structure Work : Prop where
  above : ∀ s, Above 0 (Od s)
  send : ∀ k : Fin 16, iprop(loaded c X k ∗ debt c Od k.val ∗ T k.val)
    ⊢ WP c (sendStep (F := F) c w hw k) (fun _ => iprop(loaded c X k ∗ debt c Od (k.val + 1) ∗ U k.val))
  keep : ∀ k : Fin 16, iprop(loaded c X k ∗ U k.val) ⊢ WP c (keepStep (F := F) b k) (fun _ => iprop(loaded c X k ∗ T (k.val + 1)))

/-- Which half chunk number `n` would use. -/
abbrev halfOf (n : ℕ) : Fin 2 := ⟨n % 2, Nat.mod_lt _ (by decide)⟩
/-- Chunk `n` is on its way, if there is a chunk `n`; else its half is free. -/
def flies (n : ℕ) : sProp 𝕄 := if h : n < 16 then flying c X ⟨n, h⟩ else free (F := F) c (halfOf n)
/-- Chunk `n` is in its half. -/
def atHand (n : ℕ) : sProp 𝕄 := if h : n < 16 then loaded c X ⟨n, h⟩ else free (F := F) c (halfOf n)
/-- The chunks of `x` whose copies have not started and those whose copies have ended. -/
def ahead (n : ℕ) : sProp 𝕄 := bigSep (finFrom 16 n) fun k => xPts c k X
def behind (n : ℕ) : sProp 𝕄 := bigSep (finUpTo 16 n) fun k => xPts c k X

/-- While there are chunks left one is in flight; afterwards the half is free. -/
theorem flies_lt (k : Fin 16) : flies c X k.val = flying c X k := dif_pos k.isLt
theorem flies_past (n : ℕ) (h : 16 ≤ n) : flies c X n = free (F := F) c (halfOf n) := dif_neg (Nat.not_lt.mpr h)
theorem atHand_lt (k : Fin 16) : atHand c X k.val = loaded c X k := dif_pos k.isLt

/-- Before the wait for chunk `n`; after it; after sending it; after keeping it. -/
def stA (n : ℕ) : sProp 𝕄 := iprop(flies c X n ∗ flies c X (n + 1) ∗ ahead c X (n + 2) ∗ behind c X n ∗ debt c Od n ∗ T n)
def stB (n : ℕ) : sProp 𝕄 := iprop(atHand c X n ∗ flies c X (n + 1) ∗ ahead c X (n + 2) ∗ behind c X (n + 1) ∗ debt c Od n ∗ T n)
def stM (n : ℕ) : sProp 𝕄 := iprop(atHand c X n ∗ flies c X (n + 1) ∗ ahead c X (n + 2) ∗ behind c X (n + 1) ∗ debt c Od (n + 1) ∗ U n)
def stD (n : ℕ) : sProp 𝕄 := iprop(atHand c X n ∗ flies c X (n + 1) ∗ ahead c X (n + 2) ∗ behind c X (n + 1) ∗ debt c Od (n + 1) ∗ T (n + 1))

/-- A step run beside what it does not touch. -/
theorem framed {p : TcProg F PUnit} {P Q R P' Q' : sProp 𝕄} (h : P ⊢ WP c p (fun _ => Q)) (hP : P' ⊢ iprop(P ∗ R)) (hQ : iprop(Q ∗ R) ⊢ Q') :
    P' ⊢ WP c p (fun _ => Q') :=
  hP.trans (((sep_mono_left h).trans (wp_frame_r _ _ _)).trans (wp_mono _ _ _ fun _ => hQ))

/-- Chunk `k` uses the half that chunk `k - 2` used. -/
theorem half_back (k : Fin 16) (hk : 2 ≤ k.val) : halfOf (k.val - 2) = half k := Fin.ext (by show (k.val - 2) % 2 = k.val % 2; omega)

theorem atHand_free (n : ℕ) : atHand c X n ⊢ free (F := F) c (halfOf n) := by
  unfold atHand; split
  · exact loaded_free c X _
  · exact .rfl

/-- From what a device does with one chunk, the run of all sixteen. -/
theorem run_of_work (h : Work c X w hw b Od T U) : Run c w hw b (stA c X Od T) (stB c X Od T) (stM c X Od U) (stD c X Od T) where
  wait k := by
    refine framed c (R := iprop(flies c X (k.val + 1) ∗ ahead c X (k.val + 2) ∗ behind c X k.val ∗ T k.val)) (wp_arrive c X Od k.val (h.above _) k) ?_ ?_
    · unfold stA
      rw [flies_lt]
      iintro ⟨Hf, Hn, Ha, Hb, Hd, HT⟩
      iframe
    · unfold stB
      rw [atHand_lt, behind, behind, bigSep_finUpTo_succ k.isLt]
      iintro ⟨⟨Hl, Hx, Hd⟩, Hn, Ha, Hb, HT⟩
      iframe
  send k := by
    refine framed c (R := iprop(flies c X (k.val + 1) ∗ ahead c X (k.val + 2) ∗ behind c X (k.val + 1))) (h.send k) ?_ ?_
    · unfold stB
      rw [atHand_lt]
      iintro ⟨Hl, Hn, Ha, Hb, Hd, HT⟩
      iframe
    · unfold stM
      rw [atHand_lt]
      iintro ⟨⟨Hl, Hd, HT⟩, Hn, Ha, Hb⟩
      iframe
  keep k := by
    refine framed c (R := iprop(flies c X (k.val + 1) ∗ ahead c X (k.val + 2) ∗ behind c X (k.val + 1) ∗ debt c Od (k.val + 1))) (h.keep k) ?_ ?_
    · unfold stM
      rw [atHand_lt]
      iintro ⟨Hl, Hn, Ha, Hb, Hd, HT⟩
      iframe
    · unfold stD
      rw [atHand_lt]
      iintro ⟨⟨Hl, HT⟩, Hn, Ha, Hb, Hd⟩
      iframe
  enq k hk := by
    refine framed c (R := iprop(flies c X (k.val - 1) ∗ ahead c X (k.val + 1) ∗ behind c X (k.val - 1) ∗ debt c Od (k.val - 1) ∗ T (k.val - 1))) (wp_enq c X k) ?_ ?_
    · unfold stD ahead
      rw [show k.val - 2 + 1 = k.val - 1 by omega, show k.val - 2 + 2 = k.val by omega, ← half_back k hk, bigSep_finFrom_succ k.isLt]
      iintro ⟨Hl, Hn, ⟨Hx, Ha⟩, Hb, Hd, HT⟩
      ihave Hl := (atHand_free c X (k.val - 2)) $$ Hl
      iframe
    · unfold stA
      rw [show k.val - 1 + 1 = k.val by omega, show k.val - 1 + 2 = k.val + 1 by omega, flies_lt]
      iintro ⟨Hf, Hn, Ha, Hb, Hd, HT⟩
      iframe
  last := by
    unfold stD stA
    rw [flies_past c X (15 + 1) (by decide)]
    iintro ⟨Hl, Hn, Ha, Hb, Hd, HT⟩
    isplitl [Hn]; · iexact Hn
    isplitl [Hl]
    · iapply (atHand_free c X 14) $$ Hl
    isplitl [Ha]
    · unfold ahead
      rw [bigSep_finFrom_self]; iempintro
    iframe

/-- The start: two chunks on their way. -/
theorem stA_start : iprop(flying c X 0 ∗ flying c X 1 ∗ ahead c X 2 ∗ debt c Od 0 ∗ T 0) ⊢ stA c X Od T 0 := by
  unfold stA
  rw [show flies c X 0 = flying c X 0 from flies_lt c X 0, show flies c X (0 + 1) = flying c X 1 from flies_lt c X 1]
  iintro ⟨H0, H1, Ha, Hd, HT⟩
  isplitl [H0]; · iexact H0
  isplitl [H1]; · iexact H1
  isplitl [Ha]; · iexact Ha
  isplitr [Hd HT]
  · unfold behind; rw [bigSep_finUpTo_zero]; iempintro
  isplitl [Hd] <;> iassumption

/-- The end: the block of `x` and both halves are back. -/
theorem stD_end : stD c X Od T 15 ⊢ iprop(free (F := F) c 0 ∗ free (F := F) c 1 ∗ (((c : Thread nD τ).loc main_arg0) ↦{fullShare} X) ∗ debt c Od 16 ∗ T 16) := by
  unfold stD
  rw [flies_past c X (15 + 1) (by decide)]
  iintro ⟨Hl, Hn, Ha, Hb, Hd, HT⟩
  ihave Hl := (show atHand c X 15 ⊢ free (F := F) c 1 from atHand_free c X 15) $$ Hl
  isplitl [Hn]; · iexact Hn
  isplitl [Hl]; · iexact Hl
  isplitl [Hb]
  · unfold behind
    rw [xPts_all, show (15 + 1 : ℕ) = 16 from rfl, finUpTo_self]
    iexact Hb
  isplitl [Hd] <;> iassumption

end Chunks

end Cert.KernelIdeal.Exchange

end
-- ==== Proof.KernelIdealSwap.lean ====
/-
What a device does when the table swaps: it meets its partner, sends its block quantised, chunk by chunk, and turns
what it receives into its result.
-/
module

public import proofs.«01_k».proof.Proof.KernelIdealCopy

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (sw : Bool) (K : Dev nD × Kd → ℕ)

/-- The invariants of every device's shared cells, with the names they were allocated at, each at its first round. -/
def records : sProp 𝕄 :=
  bigSep Finset.univ fun ck : Dev nD × Kd => iprop(cellInv ER (rd m sw) (K ck) (kcell ck) ∗ reached ER (kcell ck) 0)

instance records_persistent : BI.Persistent (records m sw K) := by unfold records; infer_instance

/-- One cell's record out of all of them. -/
theorem records_at (c : Dev nD) (κ : Kd) :
    records m sw K ⊢ iprop(cellInv ER (rd m sw) (K (c, κ)) (kcell (c, κ)) ∗ reached ER (kcell (c, κ)) 0) :=
  bigSep_elim (Finset.mem_univ (c, κ))

/-- A rectangle of a whole buffer is its own elements. -/
theorem setOn_whole (b : Ref sig .tc) (I : Finset b.ty.shape.Idx) : (Memref.whole b).view.setOn I ⊆ I := fun i hi => by
  obtain ⟨x, hx, rfl⟩ := Finset.mem_map.mp hi
  exact hx
/-- An access through a rectangle touches only its elements. -/
theorem setOn_access_whole (b : Ref sig .tc) (r : Rect b.ty.shape) (I : Finset r.shape.Idx) : ((Memref.whole b).access r).setOn I ⊆ r.set :=
  (View.setOn_subset_set _ I).trans (View.set_slice_whole b r).subset

section Send
variable (c : Dev nD)

/-- What device `c` needs to send chunk `k`: the chunk of its own buffer, that of its partner's, and the right to pay both cells. -/
def toSend (k : Fin 16) : sProp 𝕄 :=
  iprop((∃ f, qPts (F := F) c k f) ∗ (∃ f, rPts (F := F) (peer c) k f) ∗ dutyTok ER (kcell (c, kSend k)) 0 () ∗ dutyTok ER (kcell (peer c, kRecv k)) 0 ())
/-- What it has afterwards: the right to wait until the chunk has left. -/
def hasSent (k : Fin 16) : sProp 𝕄 := cred (tallyAt (kcell (c, kSend k)) () N)
/-- With the chunks before `s` sent. -/
def sending (s : ℕ) : sProp 𝕄 :=
  iprop(records m true K ∗ bigSep (finFrom 16 s) (fun k => toSend (F := F) c k) ∗ bigSep (finUpTo 16 s) (fun k => hasSent (F := F) c k))

/-- One transfer less is owed after a chunk is sent. -/
theorem owedFrom_succ (k : Fin 16) : owedFrom c k.val = owedFrom c (k.val + 1) + tallyAt (kcell (peer c, kRecv k)) () N :=
  sum_finFrom_succ k.isLt _

/-- The transfer of chunk `k`, addressed to a device that is the partner. -/
theorem wp_transfer (k : Fin 16) (n : Dev nD) (hn : n = peer c)
    {hsc : (rC k : Memref sig (Dev.tc n : Thread nD τ).2.kind .vmem S256x2048 .i8).view.ref.isScScratch = false}
    {hsrc : (qC k).view.WordExact} {hdst : (rC k).view.WordExact}
    {hsem : DmaTarget.Typed .vmem (.dma (rSem k)) (.remote (Dev.tc n : Thread nD τ) (rC k) (.dma (sSem k)) hsc)}
    {Q : PUnit → sProp 𝕄} {q : PUnit → Prog (TpuEff nD τ sig (Elt F) Λ₀ .tc) PUnit}
    (f : Buf (Elt F) ((peer c : Thread nD τ).loc cc0_scratch2)) (W : Waits sig Unit) :
    iprop(records m true K ∗ qPts c k (sentOf m c) ∗ rPts (F := F) (peer c) k f ∗ owes (c : Thread nD τ) (owedFrom c k.val) W
        ∗ dutyTok ER (kcell (c, kSend k)) 0 () ∗ dutyTok ER (kcell (peer c, kRecv k)) 0 ())
      ⊢ iprop(((hasSent (F := F) c k ∗ owes (c : Thread nD τ) (owedFrom c (k.val + 1)) W) -∗ WP c (q ⟨⟩) Q)
          -∗ WP c (.op (.enqueueDma (qC k) (.remote (Dev.tc n : Thread nD τ) (rC k) (.dma (sSem k)) hsc) (.dma (rSem k)) hsrc hdst hsem) q) Q) := by
  subst hn
  iintro ⟨#Hr, Hq, Hp, HO, Ht, Ht'⟩ Hk
  ihave #H1 := (records_at m true K c (kSend k)) $$ Hr
  icases H1 with ⟨#Hi1, #Hr1⟩
  ihave #H2 := (records_at m true K (peer c) (kRecv k)) $$ Hr
  icases H2 with ⟨#Hi2, #Hr2⟩
  unfold WP
  iapply (Rounds.wp_send_pointsTo 𝒱₀ ER (rd m true) (c : Thread nD τ) none (c' := (Dev.tc (peer c) : Thread nD τ)) (src := qC k) (dst := rC k) (κ₁ := K (c, kSend k)) (κ₂ := K (peer c, kRecv k))
    (r₁ := 0) (r₂ := 0) (d₁ := ()) (d₂ := ()) (fd := f) (fs := sentOf m c) (q := fullShare)
    (mem_duties m c (kSend k)) (mem_duties m (peer c) (kRecv k)) () () N rfl
    (amount_kcell m true c (kSend k) ()) (amount_kcell m true (peer c) (kRecv k) ()) (owedFrom c (k.val + 1)) (owedFrom_succ c k) (W := W)
    ?_ ?_) $$ [Hq Hp HO Ht Ht']
  · rw [payload_kcell m true c (kSend k), qC_set]; exact .rfl
  · rw [payload_kcell m true (peer c) (kRecv k), rC_set]
    unfold pay
    rw [peer_peer]
    exact Entails.of_eq (pointsTo_congr (write_recv k f (sentOf m c)))
  · isplitr; · iexact Hi1
    isplitr; · iexact Hi2
    isplitl [Hq]; · rw [qC_set]; iexact Hq
    isplitl [Hp]; · rw [rC_set]; iexact Hp
    isplitl [HO]; · iexact HO
    isplitl [Ht]; · iexact Ht
    isplitr; · iexact Hr1
    isplitl [Ht']; · iexact Ht'
    iexact Hr2
  unfold hasSent
  iexact Hk

/-- A chunk is rounded and its transfer started: the transfer takes the partner's chunk of the receive buffer and pays the partner's cell. -/
theorem wp_sendStep (hw : k0_chk1 c (word true c)) (k : Fin 16) :
    iprop(loaded c (xOf m c) k ∗ debt c (owedFrom c) k.val ∗ sending m K c k.val)
      ⊢ WP c (sendStep (F := F) c (word true c) hw k) (fun _ => iprop(loaded c (xOf m c) k ∗ debt c (owedFrom c) (k.val + 1) ∗ sending m K c (k.val + 1))) := by
  unfold loaded debt sending
  rw [bigSep_finFrom_succ k.isLt, bigSep_finUpTo_succ k.isLt]
  iintro ⟨⟨⟨%f, %hf, Hv⟩, Hs⟩, ⟨⟨%W, HO⟩, #Hl⟩, #Hr, ⟨Hk, Hrest⟩, Hsent⟩
  unfold toSend
  icases Hk with ⟨⟨%g, Hq⟩, ⟨%g', Hp⟩, Ht, Ht'⟩
  simp only [sendStep, sendThen, dif_pos (cond2_swap c), Prog.lift, Prog.bind_op, Prog.bind_ret, Prog.pure_eq_ret]
  unfold WP
  iapply (wp_load 𝒱₀ (c : Thread nD τ) none Set.univ (m := vM) (r := (rV (half k)).toLoadRect) (S := (rV (half k)).set) (f := f) (q := fullShare) (setOn_whole _ _)) $$ Hv
  iintro Hv
  rw [read_half hf, quant_part]
  iapply (wp_load 𝒱₀ (c : Thread nD τ) none Set.univ (m := qM) (r := (rB k).toLoadRect) (S := (rB k).set) (f := g) (q := fullShare) (setOn_whole _ _)) $$ Hq
  iintro Hq
  iapply (wp_store 𝒱₀ (c : Thread nD τ) none Set.univ (m := qM) (r := rB k) (S := (rB k).set) (f := g) (setOn_access_whole _ _ _)) $$ Hq
  iintro Hq
  ihave Hq := (Entails.of_eq (pointsTo_congr (write_send k g (sentOf m c)))) $$ Hq
  iapply (wp_transfer m K c k _ (Fin.ext (dev2_swap c)) g' W) $$ [Hq Hp HO Ht Ht']
  · isplitr; · iexact Hr
    iframe
  iintro ⟨Hc, HO⟩
  iapply (le_wp_ret _ _ _ PUnit.unit _)
  isplitl [Hv Hs]
  · isplitl [Hv]
    · iexists f; isplitr; · ipureintro; exact hf
      iexact Hv
    · iexact Hs
  isplitl [HO]
  · isplitl [HO]
    · iexists W; iexact HO
    · iexact Hl
  isplitr; · iexact Hr
  isplitl [Hrest]; · iexact Hrest
  isplitl [Hc]; · iexact Hc
  iexact Hsent

/-- Nothing is kept when the table swaps. -/
theorem keepStep_swap (k : Fin 16) : keepStep (F := F) (flag true) k = pure ⟨⟩ := by
  unfold keepStep keepThen; exact if_neg (by decide)

/-- What the device does with one chunk. -/
theorem work_swap (hw : k0_chk1 c (word true c)) :
    Work (F := F) c (xOf m c) (word true c) hw (flag true) (owedFrom c) (sending m K c) (fun s => sending m K c (s + 1)) where
  above s := above_mono (Nat.zero_le 1) (above_owedFrom c s)
  send k := wp_sendStep m K c hw k
  keep k := by rw [keepStep_swap]; exact done .rfl

end Send

/-! ## The handshake -/

section Meet
variable (c : Dev nD)

/-- The signal to the partner hands it the device's own receive buffer. -/
theorem wp_signal_peer (n : Dev nD) (hn : n = peer c) {Q : PUnit → sProp 𝕄} {q : PUnit → Prog (TpuEff nD τ sig (Elt F) Λ₀ .tc) PUnit} (W : Waits sig Unit) :
    iprop(records m true K ∗ owes (c : Thread nD τ) (owed₀ true c) W ∗ dutyTok ER (kcell (peer c, none)) 0 () ∗ (∃ f, ((c : Thread nD τ).loc cc0_scratch2) ↦{fullShare} f))
      ⊢ iprop((owes (c : Thread nD τ) (owedFrom c 0) W -∗ WP c (q ⟨⟩) Q)
          -∗ WP c (.op (.semSignal (Dev.tc n : Thread nD τ) barS (1#32 : BitVec 32).toInt) q) Q) := by
  subst hn
  iintro ⟨#Hr, HO, Ht, Hp⟩ Hk
  ihave #H1 := (records_at m true K (peer c) none) $$ Hr
  icases H1 with ⟨#Hi1, #Hr1⟩
  unfold WP
  rw [show (1#32 : BitVec 32).toInt = ((1 : ℕ) : Int) from rfl]
  iapply (Rounds.wp_signal 𝒱₀ ER (rd m true) (c : Thread nD τ) none (dst := (peer c : Thread nD τ)) (κ := K (peer c, none)) (sem := barS) (d := ()) (r := 0) (k' := 1)
      (mem_duties m (peer c) none) (amount_kcell m true (peer c) none ()) () (owedFrom c 0) rfl) $$ [HO Ht Hp]
  · isplitr; · iexact Hi1
    isplitl [HO]; · iexact HO
    isplitl [Ht]; · iexact Ht
    isplitl [Hp]
    · rw [payload_kcell m true (peer c) none]; unfold pay; rw [peer_peer]; iexact Hp
    iexact Hr1
  iexact Hk

/-- Before and after the handshake: the device hands its partner the buffer for what it receives, and gets its partner's. -/
def unmet : sProp 𝕄 :=
  iprop((∃ W, owes (c : Thread nD τ) (owed₀ true c) W) ∗ levAts L lv ∗ records m true K ∗ dutyTok ER (kcell (peer c, none)) 0 ()
    ∗ (∃ f, ((c : Thread nD τ).loc cc0_scratch2) ↦{fullShare} f) ∗ atPos ER (kcell (c, none)) 0 ∅ 0 ∗ cred (tallyAt (kcell (c, none)) () 1))
def met : sProp 𝕄 :=
  iprop(debt c (owedFrom c) 0 ∗ (∃ f, ((peer c : Thread nD τ).loc cc0_scratch2) ↦{fullShare} f) ∗ atPos ER (kcell (c, none)) 1 ∅ 0)

/-- After the meeting the device holds the partner's receive buffer. -/
theorem wp_meetStep (hw : k0_chk1 c (word true c)) : unmet m K c ⊢ WP c (meetStep (F := F) c (word true c) hw) (fun _ => met (F := F) c) := by
  unfold unmet met debt
  iintro ⟨⟨%W, HO⟩, #Hl, #Hr, Ht, Hp, Hat, Hc⟩
  ihave #H1 := (records_at m true K c none) $$ Hr
  icases H1 with ⟨#Hi1, #Hr1⟩
  simp only [meetStep, meetThen, dif_pos (cond1_swap c), semSignalWord, semWaitWord, Prog.lift, Prog.bind_op, Prog.bind_ret, Prog.pure_eq_ret]
  iapply (wp_signal_peer m K c _ (Fin.ext (dev1_swap c)) W) $$ [HO Ht Hp]
  · isplitr; · iexact Hr
    iframe
  iintro HO
  unfold WP
  iapply (Rounds.wp_wait_rest_token 𝒱₀ ER (rd m true) (c : Thread nD τ) none (κ := K (c, none))
      (wpE_semWait_eq 𝒱₀ (c : Thread nD τ) none Set.univ) (Set.mem_univ _) () (O := owedFrom c 0) (W := W) (R := 0) (m := 0) (T := ∅)
      (by rw [expect_kcell m c none]; decide)) $$ [Hc HO Hat]
  · isplitr; · iexact Hi1
    isplitl [Hc]; · iexact Hc
    isplitl [HO]; · iexact HO
    isplitr
    · iapply (mayWait c _ (owedFrom c 0) (by rw [lv_bar c ()]; exact above_owedFrom c 0)) $$ Hl
    iexact Hat
  iintro ⟨HO, Hat, -, Hpay⟩
  ihave Hp := (Entails.of_eq (rest_kcell m c none)) $$ Hpay
  unfold pay
  iapply (le_wp_ret _ _ _ PUnit.unit _)
  isplitl [HO]
  · isplitl [HO]
    · iexists _; iexact HO
    · iexact Hl
  isplitl [Hp]; · iexact Hp
  iexact Hat

end Meet

/-! ## Receiving, and the end of the transfers -/

section Receive
variable (c : Dev nD)

/-- What device `c` has of chunk `k` before it has waited for it, when it has read it, when it is in the result. -/
def toRecv (k : Fin 16) : sProp 𝕄 :=
  iprop(cred (tallyAt (kcell (c, kRecv k)) () N) ∗ atPos ER (kcell (c, kRecv k)) 0 ∅ 0 ∗ (∃ f, oPts (F := F) c k f))
def readIn (k : Fin 16) (v : Vec F S1x256x2048 .i8) : sProp 𝕄 :=
  iprop(⌜v = part k (sentOf m (peer c))⌝ ∗ rPts (F := F) c k (sentOf m (peer c)) ∗ (∃ f, oPts (F := F) c k f) ∗ atPos ER (kcell (c, kRecv k)) 1 ∅ 0)
def received (k : Fin 16) : sProp 𝕄 :=
  iprop(rPts (F := F) c k (sentOf m (peer c)) ∗ oPts (F := F) c k (dequantAll (sentOf m (peer c))) ∗ atPos ER (kcell (c, kRecv k)) 1 ∅ 0)
/-- Of its own transfer of chunk `k` before it has waited until it has left, and after. -/
def toLeave (k : Fin 16) : sProp 𝕄 := iprop(hasSent (F := F) c k ∗ atPos ER (kcell (c, kSend k)) 0 ∅ 0)
def hasLeft (k : Fin 16) : sProp 𝕄 := iprop(qPts (F := F) c k (sentOf m c) ∗ atPos ER (kcell (c, kSend k)) 1 ∅ 0)
/-- It owes nothing any more. -/
def clear : sProp 𝕄 := iprop(∃ W, owes (c : Thread nD τ) (0 : CellTallies nD τ sig Unit) W)

/-- The wait for the partner's chunk `k` and its load. -/
theorem wp_recvLoad (k : Fin 16) :
    iprop(toRecv (F := F) c k ∗ clear (F := F) c ∗ records m true K) ⊢ WP c (recvLoad k) (fun v => iprop(readIn m c k v ∗ clear (F := F) c ∗ records m true K)) := by
  unfold toRecv readIn clear
  iintro ⟨⟨Hc, Hat, Ho⟩, ⟨%W, HO⟩, #Hr⟩
  ihave #H1 := (records_at m true K c (kRecv k)) $$ Hr
  icases H1 with ⟨#Hi1, #Hr1⟩
  simp only [recvLoad, Prog.lift, Prog.bind_op, Prog.bind_ret, Prog.pure_eq_ret]
  unfold WP
  iapply (Rounds.wp_wait_rest_token 𝒱₀ ER (rd m true) (c : Thread nD τ) none (κ := K (c, kRecv k))
      (wpE_waitDma2_eq 𝒱₀ (c : Thread nD τ) none Set.univ) (Set.mem_univ _) () (O := 0) (W := W) (R := 0) (m := 0) (T := ∅)
      (by rw [Nat.zero_add, expect_kcell m c (kRecv k)]; rfl)) $$ [Hc HO Hat]
  · isplitr; · iexact Hi1
    isplitl [Hc]; · iexact Hc
    isplitl [HO]; · iexact HO
    isplitr; · rw [MayWait_zero]; iempintro
    iexact Hat
  iintro ⟨HO, Hat, -, Hpay⟩
  ihave Hp := (Entails.of_eq (rest_kcell m c (kRecv k))) $$ Hpay
  unfold pay
  iapply (wp_load 𝒱₀ (c : Thread nD τ) none Set.univ (m := rM) (r := (rB k).toLoadRect) (S := (rB k).set) (f := sentOf m (peer c)) (q := fullShare) (setOn_whole _ _)) $$ Hp
  iintro Hp
  iapply (le_wp_ret _ _ _ _ _)
  isplitl [Hp Ho Hat]
  · isplitr; · ipureintro; exact read_recv k _
    isplitl [Hp]; · iexact Hp
    isplitl [Ho]; · iexact Ho
    iexact Hat
  isplitl [HO]
  · iexists _; iexact HO
  · iexact Hr

/-- What was read goes into the result. -/
theorem wp_recvStore (k : Fin 16) (v : Vec F S1x256x2048 .i8) : readIn m c k v ⊢ WP c (recvStore k (dequant v)) (fun _ => received m c k) := by
  unfold readIn received
  iintro ⟨%hv, Hp, ⟨%f, Ho⟩, Hat⟩
  subst hv
  simp only [recvStore, Prog.lift, Prog.bind_op, Prog.bind_ret, Prog.pure_eq_ret]
  rw [dequant_part]
  unfold WP
  iapply (wp_load 𝒱₀ (c : Thread nD τ) none Set.univ (m := oM) (r := (rB k).toLoadRect) (S := (rB k).set) (f := f) (q := fullShare) (setOn_whole _ _)) $$ Ho
  iintro Ho
  iapply (wp_store 𝒱₀ (c : Thread nD τ) none Set.univ (m := oM) (r := rB k) (S := (rB k).set) (f := f) (setOn_access_whole _ _ _)) $$ Ho
  iintro Ho
  ihave Ho := (Entails.of_eq (pointsTo_congr (write_out k f (dequantAll (sentOf m (peer c)))))) $$ Ho
  iapply (le_wp_ret _ _ _ _ _)
  isplitl [Hp]; · iexact Hp
  isplitl [Ho]; · iexact Ho
  iexact Hat

/-- The wait until the device's own transfer of chunk `k` has left. -/
theorem wp_sentStep (k : Fin 16) :
    iprop(toLeave (F := F) c k ∗ clear (F := F) c ∗ records m true K) ⊢ WP c (sentStep k) (fun _ => iprop(hasLeft m c k ∗ clear (F := F) c ∗ records m true K)) := by
  unfold toLeave hasLeft clear hasSent
  iintro ⟨⟨Hc, Hat⟩, ⟨%W, HO⟩, #Hr⟩
  ihave #H1 := (records_at m true K c (kSend k)) $$ Hr
  icases H1 with ⟨#Hi1, #Hr1⟩
  simp only [sentStep, Prog.lift]
  unfold WP
  iapply (Rounds.wp_wait_rest_token 𝒱₀ ER (rd m true) (c : Thread nD τ) none (κ := K (c, kSend k))
      (wpE_waitDma2_eq 𝒱₀ (c : Thread nD τ) none Set.univ) (Set.mem_univ _) () (O := 0) (W := W) (R := 0) (m := 0) (T := ∅)
      (by rw [Nat.zero_add, expect_kcell m c (kSend k)]; rfl)) $$ [Hc HO Hat]
  · isplitr; · iexact Hi1
    isplitl [Hc]; · iexact Hc
    isplitl [HO]; · iexact HO
    isplitr; · rw [MayWait_zero]; iempintro
    iexact Hat
  iintro ⟨HO, Hat, -, Hpay⟩
  ihave Hp := (Entails.of_eq (rest_kcell m c (kSend k))) $$ Hpay
  unfold pay
  iapply (le_wp_ret _ _ _ _ _)
  isplitl [Hp Hat]
  · isplitl [Hp] <;> iassumption
  isplitl [HO]
  · iexists _; iexact HO
  · iexact Hr

/-- With the chunks before `n` received; with chunk `n` read; with the transfers before `n` known to have left. -/
def stR (n : ℕ) : sProp 𝕄 :=
  iprop(bigSep (finFrom 16 n) (fun k => toRecv (F := F) c k) ∗ bigSep (finUpTo 16 n) (fun k => received m c k)
    ∗ bigSep Finset.univ (fun k => toLeave (F := F) c k) ∗ clear (F := F) c ∗ records m true K)
def stV (n : ℕ) (v : Vec F S1x256x2048 .i8) : sProp 𝕄 :=
  iprop(bigSep (finFrom 16 (n + 1)) (fun k => toRecv (F := F) c k) ∗ bigSep (finUpTo 16 n) (fun k => received m c k)
    ∗ (if h : n < 16 then readIn m c ⟨n, h⟩ v else iprop(emp))
    ∗ bigSep Finset.univ (fun k => toLeave (F := F) c k) ∗ clear (F := F) c ∗ records m true K)
def stZ (n : ℕ) : sProp 𝕄 :=
  iprop(bigSep Finset.univ (fun k => received m c k) ∗ bigSep (finFrom 16 n) (fun k => toLeave (F := F) c k)
    ∗ bigSep (finUpTo 16 n) (fun k => hasLeft m c k) ∗ clear (F := F) c ∗ records m true K)

theorem stV_lt (k : Fin 16) (v : Vec F S1x256x2048 .i8) : (if h : k.val < 16 then readIn m c ⟨k.val, h⟩ v else iprop(emp)) = readIn m c k v := dif_pos k.isLt

/-- The ending: every arrived chunk is awaited and stored, and every transfer of the device's own has left. -/
theorem drain_swap : Drain (F := F) c (stR m K c) (stV m K c) (stZ m K c) where
  load k := by
    unfold stR stV
    rw [bigSep_finFrom_succ k.isLt]
    simp only [stV_lt]
    refine BIBase.Entails.trans ?_ (((sep_mono_left (wp_recvLoad m K c k)).trans (wp_frame_r (R := iprop(bigSep (finFrom 16 (k.val + 1)) (fun k => toRecv (F := F) c k) ∗ bigSep (finUpTo 16 k.val) (fun k => received m c k)
      ∗ bigSep Finset.univ (fun k => toLeave (F := F) c k))) _ _ _)).trans (wp_mono _ _ _ fun v => ?_))
    · iintro ⟨⟨H, Ha⟩, Hb, Hz, Hc, Hr⟩
      iframe
    · iintro ⟨⟨H, Hc, Hr⟩, Ha, Hb, Hz⟩
      iframe
  store k v := by
    refine framed c (R := iprop(bigSep (finFrom 16 (k.val + 1)) (fun k => toRecv (F := F) c k) ∗ bigSep (finUpTo 16 k.val) (fun k => received m c k)
      ∗ bigSep Finset.univ (fun k => toLeave (F := F) c k) ∗ clear (F := F) c ∗ records m true K)) (wp_recvStore m c k v) ?_ ?_
    · unfold stV
      rw [stV_lt]
      iintro ⟨Ha, Hb, H, Hz, Hc, Hr⟩
      iframe
    · unfold stR
      rw [bigSep_finUpTo_succ k.isLt]
      iintro ⟨H, Ha, Hb, Hz, Hc, Hr⟩
      iframe
  sent k := by
    refine framed c (R := iprop(bigSep Finset.univ (fun k => received m c k) ∗ bigSep (finFrom 16 (k.val + 1)) (fun k => toLeave (F := F) c k)
      ∗ bigSep (finUpTo 16 k.val) (fun k => hasLeft m c k))) (wp_sentStep m K c k) ?_ ?_
    · unfold stZ
      rw [bigSep_finFrom_succ k.isLt]
      iintro ⟨Hb, ⟨H, Ha⟩, Hz, Hc, Hr⟩
      iframe
    · unfold stZ
      rw [bigSep_finUpTo_succ k.isLt]
      iintro ⟨⟨H, Hc, Hr⟩, Hb, Ha, Hz⟩
      iframe
  turn := by
    unfold stR stZ
    rw [finUpTo_self, finFrom_zero, bigSep_finUpTo_zero]
    iintro ⟨-, Hb, Hz, Hc, Hr⟩
    iframe
    try iempintro

end Receive

end Cert.KernelIdeal.Exchange

end
-- ==== Proof.KernelIdealStay.lean ====
/-
What a device does when the table leaves the blocks where they are: it sends nothing and rounds its own block, chunk by
chunk, into its result.
-/
module

public import proofs.«01_k».proof.Proof.KernelIdealSwap

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

section Stay
variable (c : Dev nD) (X : S1x4096x2048.Idx → F .f32)

/-- With the chunks before `s` in the result. -/
def keeping (s : ℕ) : sProp 𝕄 :=
  iprop(bigSep (finFrom 16 s) (fun k => iprop(∃ f, oPts (F := F) c k f)) ∗ bigSep (finUpTo 16 s) (fun k => oPts (F := F) c k (keepAll X)))

/-- With a table that leaves the blocks nothing is sent and nobody is met. -/
theorem sendStep_stay (hw : k0_chk1 c (word false c)) (k : Fin 16) : sendStep (F := F) c (word false c) hw k = pure ⟨⟩ := by
  unfold sendStep sendThen; exact dif_neg (cond2_stay c)
theorem meetStep_stay (hw : k0_chk1 c (word false c)) : meetStep (F := F) c (word false c) hw = pure ⟨⟩ := by
  unfold meetStep meetThen; exact dif_neg (cond1_stay c)

/-- A chunk is stored into the result. -/
theorem wp_keepStep (k : Fin 16) :
    iprop(loaded c X k ∗ keeping c X k.val) ⊢ WP c (keepStep (F := F) (flag false) k) (fun _ => iprop(loaded c X k ∗ keeping c X (k.val + 1))) := by
  unfold loaded keeping
  rw [bigSep_finFrom_succ k.isLt, bigSep_finUpTo_succ k.isLt]
  iintro ⟨⟨⟨%f, %hf, Hv⟩, Hs⟩, ⟨⟨%g, Ho⟩, Hrest⟩, Hkept⟩
  simp only [keepStep, keepThen, if_pos (show Scalar.cmpi .ne (Scalar.extui (Scalar.xori (flag false) 1#1)) 0#32 = 1#1 by decide), Prog.lift, Prog.bind_op, Prog.bind_ret, Prog.pure_eq_ret]
  unfold WP
  iapply (wp_load 𝒱₀ (c : Thread nD τ) none Set.univ (m := vM) (r := (rV (half k)).toLoadRect) (S := (rV (half k)).set) (f := f) (q := fullShare) (setOn_whole _ _)) $$ Hv
  iintro Hv
  rw [read_half hf, keep_part]
  iapply (wp_load 𝒱₀ (c : Thread nD τ) none Set.univ (m := oM) (r := (rB k).toLoadRect) (S := (rB k).set) (f := g) (q := fullShare) (setOn_whole _ _)) $$ Ho
  iintro Ho
  iapply (wp_store 𝒱₀ (c : Thread nD τ) none Set.univ (m := oM) (r := rB k) (S := (rB k).set) (f := g) (setOn_access_whole _ _ _)) $$ Ho
  iintro Ho
  ihave Ho := (Entails.of_eq (pointsTo_congr (write_out k g (keepAll X)))) $$ Ho
  iapply (le_wp_ret _ _ _ PUnit.unit _)
  isplitl [Hv Hs]
  · isplitl [Hv]
    · iexists f; isplitr; · ipureintro; exact hf
      iexact Hv
    · iexact Hs
  isplitl [Hrest]; · iexact Hrest
  isplitl [Ho]; · iexact Ho
  iexact Hkept

/-- What the device does with one chunk. -/
theorem work_stay (hw : k0_chk1 c (word false c)) :
    Work (F := F) c X (word false c) hw (flag false) (fun _ => 0) (keeping c X) (keeping c X) where
  above _ := above_zero 0
  send k := by rw [sendStep_stay]; exact done .rfl
  keep k := wp_keepStep c X k

/-- And nothing is awaited at the end. -/
theorem ending_stay (v2 v5 : BitVec 32) : ending (F := F) v2 v5 (word false c) (flag false) = pure ⟨⟩ := by
  unfold ending; exact if_neg (by decide)

end Stay

end Cert.KernelIdeal.Exchange

end
-- ==== Proof.KernelIdealBody.lean ====
/-
The whole body on one device, for either table: what it starts from, and that it ends with the device's result.
-/
module

public import proofs.«01_k».proof.Proof.KernelIdealStay

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (sw : Bool) (K : Dev nD × Kd → ℕ) (c : Dev nD)

/-- A conjunction over the kinds of cell: the barrier, the sends, the receives. -/
theorem bigSep_kinds (Φ : Kd → sProp 𝕄) :
    bigSep Finset.univ Φ = iprop(Φ none ∗ (bigSep Finset.univ fun k => Φ (kSend k)) ∗ bigSep Finset.univ fun k => Φ (kRecv k)) := by
  rw [bigSep_erase (Finset.mem_univ (none : Kd)), show (Finset.univ : Finset Kd).erase none = Finset.univ.map Function.Embedding.some from by
    ext κ; cases κ <;> simp, bigSep_map, bigSep_univ_sum]
  rfl

/-- A buffer held with some contents is each chunk held with some. -/
theorem some_chunks {A : Type} {Φ : A → sProp 𝕄} {Ψ : Fin 16 → A → sProp 𝕄} (h : ∀ f, Φ f = bigSep Finset.univ fun k => Ψ k f) :
    iprop(∃ f, Φ f) ⊢ bigSep Finset.univ fun k => iprop(∃ f, Ψ k f) := by
  iintro ⟨%f, H⟩
  ihave H := (Entails.of_eq (h f)) $$ H
  have hs : (bigSep Finset.univ fun k => Ψ k f) ⊢ bigSep Finset.univ fun k => iprop(∃ f, Ψ k f) := bigSep_mono fun k _ => exists_intro (Φ := fun f => Ψ k f) f
  iapply hs $$ H

/-- The cell each of device `c`'s duties pays: the partner's barrier, its own sends, the partner's receives. -/
def payCell : Kd → Dev nD × Kd
  | none => (peer c, none)
  | some (.inl k) => (c, kSend k)
  | some (.inr k) => (peer c, kRecv k)
/-- The tokens of the duties that device `c` pays. -/
def payToks : sProp 𝕄 := bigSep Finset.univ fun κ : Kd => dutyTok ER (kcell (payCell c κ)) 0 ()
/-- The device's cells are all at round `R`. -/
def positions (R : ℕ) : sProp 𝕄 := bigSep Finset.univ fun κ : Kd => atPos ER (kcell (c, κ)) R ∅ 0
/-- What is credited to it at launch: its partner's signal and its partner's transfers. -/
def credits : Bool → sProp 𝕄
  | true => iprop(cred (tallyAt (kcell (c, none)) () 1) ∗ bigSep Finset.univ fun k => cred (tallyAt (kcell (c, kRecv k)) () N))
  | false => iprop(emp)
/-- The device's result. -/
def outAt : S1x4096x2048.Idx → F .bf16 := if sw then dequantAll (sentOf m (peer c)) else keepAll (xOf m c)
/-- The last round of the shared cells. -/
abbrev lastRound : ℕ := if sw then 1 else 0

/-- A buffer of the device's with some contents. -/
abbrev some1 : sProp 𝕄 := iprop(∃ f : Buf (Elt F) ((c : Thread nD τ).loc cc0_scratch1), ((c : Thread nD τ).loc cc0_scratch1) ↦{fullShare} f)
abbrev some2 : sProp 𝕄 := iprop(∃ f : Buf (Elt F) ((c : Thread nD τ).loc cc0_scratch2), ((c : Thread nD τ).loc cc0_scratch2) ↦{fullShare} f)

/-- What the body starts from and what it ends with, the table, the block of `x` and the double buffer apart. -/
def opening : sProp 𝕄 :=
  iprop(records m sw K ∗ (∃ W, owes (c : Thread nD τ) (owed₀ sw c) W) ∗ levAts L lv ∗ positions (F := F) c 0 ∗ payToks (F := F) c ∗ credits (F := F) c sw
    ∗ some1 (F := F) c ∗ some2 (F := F) c ∗ ∃ f : Buf (Elt F) ((c : Thread nD τ).loc cc0_stg1_0), ((c : Thread nD τ).loc cc0_stg1_0) ↦{fullShare} f)
def closing : sProp 𝕄 :=
  iprop(records m sw K ∗ clear (F := F) c ∗ positions (F := F) c (lastRound sw) ∗ some1 (F := F) c ∗ some2 (F := F) c
    ∗ (((c : Thread nD τ).loc cc0_stg1_0) ↦{fullShare} (outAt m sw c : S1x4096x2048.Idx → F .bf16)))

/-- What has to be known of a table: the work on the chunks, the handshake before it, what follows it. -/
structure Mode (Od : ℕ → CellTallies nD τ sig Unit) (T U : ℕ → sProp (MT nD τ sig Unit (Elt F) ℕ UU ℕ)) (S : sProp (MT nD τ sig Unit (Elt F) ℕ UU ℕ)) : Prop where
  work : Work (F := F) c (xOf m c) (word sw c) (word_chk sw c) (flag sw) Od T U
  meet : opening m sw K c ⊢ WP c (meetStep (F := F) c (word sw c) (word_chk sw c)) (fun _ => iprop(debt c Od 0 ∗ T 0 ∗ S))
  ending : ∀ v2 v5 : BitVec 32, iprop(debt c Od 16 ∗ T 16 ∗ S) ⊢ WP c (ending (F := F) v2 v5 (word sw c) (flag sw)) (fun _ => closing m sw K c)

/-- The case of a table that leaves the blocks: nothing is owed and the chunks are stored directly. -/
theorem mode_stay : Mode (F := F) m false K c (fun _ => 0) (keeping c (xOf m c)) (keeping c (xOf m c))
    iprop(records m false K ∗ positions (F := F) c 0 ∗ some1 (F := F) c ∗ some2 (F := F) c) where
  work := work_stay c (xOf m c) _
  meet := by
    rw [meetStep_stay]
    refine done ?_
    unfold opening debt keeping
    rw [finFrom_zero, bigSep_finUpTo_zero]
    iintro ⟨#Hr, ⟨%W, HO⟩, #Hl, Hat, -, -, H1, H2, Ho⟩
    ihave Ho := (some_chunks (F := F) (Ψ := fun k f => oPts (F := F) c k f) fun f => oPts_all c f) $$ Ho
    isplitl [HO]
    · isplitl [HO]
      · iexists W; iexact HO
      · iexact Hl
    isplitl [Ho]
    · isplitl [Ho]; · iexact Ho
      iempintro
    isplitr; · iexact Hr
    isplitl [Hat]; · iexact Hat
    isplitl [H1] <;> iassumption
  ending v2 v5 := by
    rw [ending_stay]
    refine done ?_
    unfold debt keeping closing clear outAt
    rw [finUpTo_self, if_neg (by decide), oPts_all]
    iintro ⟨⟨HO, -⟩, ⟨-, Ho⟩, Hr, Hat, H1, H2⟩
    isplitl [Hr]; · iexact Hr
    isplitl [HO]; · iexact HO
    isplitl [Hat]; · iexact Hat
    isplitl [H1]; · iexact H1
    isplitl [H2] <;> iassumption

/-- Between the handshake and the end of the chunks a swapping device holds this back. -/
def heldBack : sProp 𝕄 :=
  iprop(atPos ER (kcell (c, none)) 1 ∅ 0 ∗ (bigSep Finset.univ fun k => atPos ER (kcell (c, kSend k)) 0 ∅ 0) ∗ bigSep Finset.univ fun k => toRecv (F := F) c k)

/-- The case of a table that swaps: a transfer is owed for each chunk, and the partner's chunks come back. -/
theorem mode_swap : Mode (F := F) m true K c (owedFrom c) (sending m K c) (fun s => sending m K c (s + 1)) (heldBack (F := F) c) where
  work := work_swap m K c _
  meet := by
    refine framed c (R := iprop(records m true K ∗ (bigSep Finset.univ fun k => iprop(∃ f, qPts (F := F) c k f))
      ∗ (bigSep Finset.univ fun k => dutyTok ER (kcell (c, kSend k)) 0 ()) ∗ (bigSep Finset.univ fun k => dutyTok ER (kcell (peer c, kRecv k)) 0 ())
      ∗ (bigSep Finset.univ fun k => atPos ER (kcell (c, kSend k)) 0 ∅ 0) ∗ bigSep Finset.univ fun k => toRecv (F := F) c k)) (wp_meetStep m K c _) ?_ ?_
    · unfold opening unmet positions payToks credits toRecv
      simp only [bigSep_kinds, bigSep_sep']
      iintro ⟨#Hr, HO, #Hl, ⟨Hab, Has, Har⟩, ⟨Htb, Hts, Htr⟩, ⟨Hcb, Hcr⟩, H1, H2, Ho⟩
      ihave Ho := (some_chunks (F := F) (Ψ := fun k f => oPts (F := F) c k f) fun f => oPts_all c f) $$ Ho
      ihave H1 := (some_chunks (F := F) (Ψ := fun k f => qPts (F := F) c k f) fun f => qPts_all c f) $$ H1
      isplitl [HO Htb H2 Hab Hcb]
      · isplitl [HO]; · iexact HO
        isplitr; · iexact Hl
        isplitr; · iexact Hr
        isplitl [Htb]; · iexact Htb
        isplitl [H2]; · iexact H2
        isplitl [Hab]; · iexact Hab
        iexact Hcb
      isplitr; · iexact Hr
      isplitl [H1]; · iexact H1
      isplitl [Hts]; · iexact Hts
      isplitl [Htr]; · iexact Htr
      isplitl [Has]; · iexact Has
      isplitl [Hcr]; · iexact Hcr
      isplitl [Har]; · iexact Har
      iexact Ho
    · unfold met sending heldBack toSend
      rw [finFrom_zero, bigSep_finUpTo_zero]
      simp only [bigSep_sep']
      iintro ⟨⟨Hd, H2, Hab⟩, Hr, H1, Hts, Htr, Has, Hrv⟩
      ihave H2 := (some_chunks (F := F) (Ψ := fun k f => rPts (F := F) (peer c) k f) fun f => rPts_all (peer c) f) $$ H2
      isplitl [Hd]; · iexact Hd
      isplitl [Hr H1 H2 Hts Htr]
      · isplitl [Hr]; · iexact Hr
        isplitl [H1 H2 Hts Htr]
        · isplitl [H1]; · iexact H1
          isplitl [H2]; · iexact H2
          isplitl [Hts] <;> iassumption
        iempintro
      isplitl [Hab]; · iexact Hab
      isplitl [Has] <;> iassumption
  ending v2 v5 := by
    rw [show ending (F := F) v2 v5 (word true c) (flag true) = drain v2 v5 (word true c) from by unfold ending; exact if_pos (by decide)]
    refine framed c (P := stR m K c 0) (Q := stZ m K c 16) (R := atPos ER (kcell (c, none)) 1 ∅ 0) ((drain_swap m K c).drain .rfl) ?_ ?_
    · unfold debt sending heldBack stR clear toLeave
      rw [show owedFrom c 16 = 0 from sum_finFrom_self _, finFrom_zero, finUpTo_self, bigSep_finUpTo_zero]
      simp only [bigSep_sep']
      iintro ⟨⟨HO, -⟩, ⟨Hr, -, Hsent⟩, Hab, Has, Hrv⟩
      isplitr [Hab]
      · isplitl [Hrv]; · iexact Hrv
        isplitr [Hsent Has HO Hr]; · iempintro
        isplitl [Hsent Has]
        · isplitl [Hsent] <;> iassumption
        isplitl [HO]; · iexact HO
        iexact Hr
      iexact Hab
    · unfold stZ closing positions outAt received hasLeft
      rw [bigSep_finFrom_self, finUpTo_self, if_pos rfl, bigSep_kinds, oPts_all]
      simp only [bigSep_sep']
      iintro ⟨⟨⟨Hp, Ho, Har⟩, -, ⟨Hq, Has⟩, HO, Hr⟩, Hab⟩
      ihave Hp := (Entails.of_eq (rPts_all c (sentOf m (peer c))).symm) $$ Hp
      ihave Hq := (Entails.of_eq (qPts_all c (sentOf m c)).symm) $$ Hq
      isplitl [Hr]; · iexact Hr
      isplitl [HO]; · iexact HO
      isplitl [Hab Has Har]
      · isplitl [Hab]; · iexact Hab
        isplitl [Has]; · iexact Has
        iexact Har
      isplitl [Hq]; · iexists _; iexact Hq
      isplitl [Hp]; · iexists _; iexact Hp
      iexact Ho

/-! ## The body -/

theorem Work.keepAside {X : S1x4096x2048.Idx → F .f32} {w : BitVec 32} {hw : k0_chk1 c w} {b : BitVec 1} {Od : ℕ → CellTallies nD τ sig Unit}
    {T U : ℕ → sProp (MT nD τ sig Unit (Elt F) ℕ UU ℕ)} (h : Work (F := F) c X w hw b Od T U) (S : sProp (MT nD τ sig Unit (Elt F) ℕ UU ℕ)) :
    Work (F := F) c X w hw b Od (fun s => iprop(T s ∗ S)) (fun s => iprop(U s ∗ S)) where
  above := h.above
  send k := by
    refine framed c (R := S) (h.send k) ?_ ?_
    · iintro ⟨H1, H2, H3, HS⟩
      isplitr [HS]
      · isplitl [H1]; · iexact H1
        isplitl [H2] <;> iassumption
      iexact HS
    · iintro ⟨⟨H1, H2, H3⟩, HS⟩
      isplitl [H1]; · iexact H1
      isplitl [H2]; · iexact H2
      isplitl [H3] <;> iassumption
  keep k := by
    refine framed c (R := S) (h.keep k) ?_ ?_
    · iintro ⟨H1, H2, HS⟩
      isplitr [HS]
      · isplitl [H1] <;> iassumption
      iexact HS
    · iintro ⟨⟨H1, H2⟩, HS⟩
      isplitl [H1]; · iexact H1
      isplitl [H2] <;> iassumption

/-- The table as staged. -/
abbrev tPts (ts : S2.Idx → BitVec 32) : sProp 𝕄 := ((c : Thread nD τ).loc cc0_stg0_0) ↦{fullShare} (ts : Buf (Elt F) ((c : Thread nD τ).loc cc0_stg0_0))
/-- Device `c`'s block of `x`. -/
abbrev xAll : sProp 𝕄 := ((c : Thread nD τ).loc main_arg0) ↦{fullShare} (xOf m c : S1x4096x2048.Idx → F .f32)

/-- The word the body reads is the staged table's at the device's place in the plane. -/
theorem read_word (ts : S2.Idx → BitVec 32) (hts : ∀ i : S2.Idx, (i 0).val = c.val % 2 → ts i = word sw c) :
    (tM.access (Rect.unit (s := S2) (k0_off1 c) S1.size (k0_off1_inb c))).read (Elt F) ts (Shape.Idx.first (s := S1) (numel1_S1.symm ▸ Nat.one_pos)) = word sw c := by
  refine hts _ ?_
  fin_cases c <;> rfl

section Whole
variable {m sw K c} {Od : ℕ → CellTallies nD τ sig Unit} {T U : ℕ → sProp (MT nD τ sig Unit (Elt F) ℕ UU ℕ)} {S : sProp (MT nD τ sig Unit (Elt F) ℕ UU ℕ)}

/-- What holds when the chunks begin, and what holds at the end. -/
def begun (m : (ℓ : Loc nD τ sig) → Buf (Elt F) ℓ) (c : Dev nD) (ts : S2.Idx → BitVec 32) (Od : ℕ → CellTallies nD τ sig Unit) (T : ℕ → sProp (MT nD τ sig Unit (Elt F) ℕ UU ℕ))
    (S : sProp (MT nD τ sig Unit (Elt F) ℕ UU ℕ)) : sProp 𝕄 :=
  iprop(stA c (xOf m c) Od (fun s => iprop(T s ∗ S)) 0 ∗ tPts (F := F) c ts)
def ended (m : (ℓ : Loc nD τ sig) → Buf (Elt F) ℓ) (sw : Bool) (K : Dev nD × Kd → ℕ) (c : Dev nD) : sProp 𝕄 :=
  iprop(closing m sw K c ∗ free (F := F) c 0 ∗ free (F := F) c 1 ∗ xAll m c)

/-- The meeting of the partners, where there is one, and the start of the first two copies. -/
theorem wp_start (md : Mode (F := F) m sw K c Od T U S) :
    iprop(opening m sw K c ∗ free (F := F) c 0 ∗ free (F := F) c 1 ∗ xAll m c)
      ⊢ WP c (do let _ ← meetStep (F := F) c (word sw c) (word_chk sw c); let _ ← enqStep 0; enqStep 1) (fun _ => stA c (xOf m c) Od (fun s => iprop(T s ∗ S)) 0) := by
  refine seq (Q := iprop((debt c Od 0 ∗ T 0 ∗ S) ∗ (free (F := F) c 0 ∗ xPts c 0 (xOf m c)) ∗ free (F := F) c 1 ∗ xPts c 1 (xOf m c) ∗ ahead c (xOf m c) 2)) ?_
    (seq (Q := iprop((debt c Od 0 ∗ T 0 ∗ S) ∗ flying c (xOf m c) 0 ∗ (free (F := F) c 1 ∗ xPts c 1 (xOf m c)) ∗ ahead c (xOf m c) 2)) ?_ ?_)
  · refine framed c (R := iprop(free (F := F) c 0 ∗ free (F := F) c 1 ∗ xAll m c)) md.meet .rfl ?_
    rw [show xAll m c = iprop(xPts c 0 (xOf m c) ∗ xPts c 1 (xOf m c) ∗ ahead c (xOf m c) 2) from by
      unfold xAll ahead
      rw [xPts_all, ← finFrom_zero, show (0 : ℕ) = (0 : Fin 16).val from rfl, bigSep_finFrom_succ (0 : Fin 16).isLt, show (0 : Fin 16).val + 1 = (1 : Fin 16).val from rfl,
        bigSep_finFrom_succ (1 : Fin 16).isLt]; rfl]
    iintro ⟨H, H0, H1, Hx0, Hx1, Ha⟩
    isplitl [H]; · iexact H
    isplitl [H0 Hx0]
    · isplitl [H0] <;> iassumption
    isplitl [H1]; · iexact H1
    isplitl [Hx1] <;> iassumption
  · refine framed c (R := iprop((debt c Od 0 ∗ T 0 ∗ S) ∗ free (F := F) c 1 ∗ xPts c 1 (xOf m c) ∗ ahead c (xOf m c) 2)) (wp_enq c (xOf m c) 0) ?_ ?_
    · iintro ⟨H, H0, H1⟩
      isplitl [H0]; · iexact H0
      isplitl [H] <;> iassumption
    · iintro ⟨H0, H, H1, Hx1, Ha⟩
      isplitl [H]; · iexact H
      isplitl [H0]; · iexact H0
      isplitr [Ha]
      · isplitl [H1] <;> iassumption
      iexact Ha
  · refine framed c (R := iprop((debt c Od 0 ∗ T 0 ∗ S) ∗ flying c (xOf m c) 0 ∗ ahead c (xOf m c) 2)) (wp_enq c (xOf m c) 1) ?_ ?_
    · iintro ⟨H, H0, H1, Ha⟩
      isplitl [H1]; · iexact H1
      isplitl [H]; · iexact H
      isplitl [H0] <;> iassumption
    · iintro ⟨H1, ⟨Hd, HT⟩, H0, Ha⟩
      iapply (stA_start c (xOf m c) Od (fun s => iprop(T s ∗ S)))
      isplitl [H0]; · iexact H0
      isplitl [H1]; · iexact H1
      isplitl [Ha]; · iexact Ha
      isplitl [Hd] <;> iassumption

/-- The same as the body has it, with what it returns. -/
theorem wp_met (md : Mode (F := F) m sw K c Od T U S) (ts : S2.Idx → BitVec 32) {α : Type} {a : α} {Φ : α → sProp 𝕄} (h : begun m c ts Od T S ⊢ Φ a) :
    iprop(opening m sw K c ∗ free (F := F) c 0 ∗ free (F := F) c 1 ∗ xAll m c ∗ tPts (F := F) c ts)
      ⊢ WP c (meetThen (F := F) c (word sw c) (word_chk sw c) (do let _ ← enqStep 0; let _ ← enqStep 1; pure a)) Φ := by
  rw [meetThen_eq, show (meetStep (F := F) c (word sw c) (word_chk sw c) >>= fun _ => do let _ ← enqStep 0; let _ ← enqStep 1; pure a)
    = (do let _ ← meetStep (F := F) c (word sw c) (word_chk sw c); let _ ← enqStep 0; enqStep 1) >>= fun _ => pure a from by simp only [Prog.bind_assoc]]
  refine seq (Q := begun m c ts Od T S) (framed c (R := tPts (F := F) c ts) (wp_start md) ?_ .rfl) (done h)
  iintro ⟨Ho, H0, H1, Hx, Ht⟩
  isplitr [Ht]
  · isplitl [Ho]; · iexact Ho
    isplitl [H0]; · iexact H0
    isplitl [H1] <;> iassumption
  iexact Ht

/-- The first part of the body: the table is read, the handshake done, two copies started. -/
theorem wp_prefix (md : Mode (F := F) m sw K c Od T U S) (ts : S2.Idx → BitVec 32) (hts : ∀ i : S2.Idx, (i 0).val = c.val % 2 → ts i = word sw c)
    {Φ : _ → sProp 𝕄} (h : ∀ v2 v5, begun m c ts Od T S ⊢ Φ ⟨c, v2, v5, word sw c, word_chk sw c, flag sw⟩) :
    iprop(opening m sw K c ∗ free (F := F) c 0 ∗ free (F := F) c 1 ∗ xAll m c ∗ tPts (F := F) c ts)
      ⊢ WP c (k0_part16 (F := F) xM (Memref.isWhole_whole _) tM (Memref.isWhole_whole _) oM (Memref.isWhole_whole _) vM (Memref.isWhole_whole _) qM (Memref.isWhole_whole _) rM (Memref.isWhole_whole _) cS sS rS) Φ := by
  rw [part16_eq]
  simp only [smemLoad, smemLoadElt, Prog.lift, Prog.bind_op, Prog.bind_ret, Prog.pure_eq_ret, wp_deviceId]
  iintro ⟨Ho, H0, H1, Hx, Ht⟩
  iapply (wp_load_rect 𝒱₀ (c : Thread nD τ) none Set.univ (m := tM) (r := Rect.unit (s := S2) (k0_off1 c) S1.size (k0_off1_inb c)) (Finset.subset_univ _)) $$ Ht; iintro Ht
  rw [read_word sw c ts hts]
  simp only [wp_assume_of _ _ _ _ (d := k0_chk1.dec _ _) (word_chk sw c)]
  rw [flag_eq]
  iapply (wp_met md ts (h _ _))
  isplitl [Ho]; · iexact Ho
  isplitl [H0]; · iexact H0
  isplitl [H1]; · iexact H1
  isplitl [Hx] <;> iassumption

/-- From the chunks to the end. -/
theorem wp_chunks (md : Mode (F := F) m sw K c Od T U S) (v2 v5 : BitVec 32) (ts : S2.Idx → BitVec 32) :
    begun m c ts Od T S ⊢ WP c (chunks (F := F) c v2 v5 (word sw c) (word_chk sw c) (flag sw)) (fun _ => iprop(ended m sw K c ∗ tPts (F := F) c ts)) := by
  refine framed c (R := tPts (F := F) c ts) ((run_of_work _ _ _ _ _ _ _ _ (md.work.keepAside c S)).chunks (Φ := fun _ => ended m sw K c) ?_) .rfl .rfl
  refine (stD_end _ _ _ _).trans (framed c (R := iprop(free (F := F) c 0 ∗ free (F := F) c 1 ∗ xAll m c)) (md.ending v2 v5) ?_ .rfl)
  iintro ⟨H0, H1, Hx, Hd, HT, HS⟩
  isplitl [Hd HT HS]
  · isplitl [Hd]; · iexact Hd
    isplitl [HT] <;> iassumption
  isplitl [H0]; · iexact H0
  isplitl [H1] <;> iassumption

/-- The whole body, for a table whose entry for the device is the one named by `sw`. -/
theorem wp_body (md : Mode (F := F) m sw K c Od T U S) (ts : S2.Idx → BitVec 32) (hts : ∀ i : S2.Idx, (i 0).val = c.val % 2 → ts i = word sw c) :
    iprop(opening m sw K c ∗ free (F := F) c 0 ∗ free (F := F) c 1 ∗ xAll m c ∗ tPts (F := F) c ts)
      ⊢ WP c (cc0_body (F := F) xM (Memref.isWhole_whole _) tM (Memref.isWhole_whole _) oM (Memref.isWhole_whole _) vM (Memref.isWhole_whole _) qM (Memref.isWhole_whole _) rM (Memref.isWhole_whole _) cS sS rS)
        (fun _ => iprop(ended m sw K c ∗ tPts (F := F) c ts)) := by
  rw [body_eq]; unfold WP; rw [wp_bind]
  exact wp_prefix md ts hts fun v2 v5 => wp_chunks md v2 v5 ts

end Whole

/-- The body, for either table. -/
theorem wp_either (ts : S2.Idx → BitVec 32) (hts : ∀ i : S2.Idx, (i 0).val = c.val % 2 → ts i = word sw c) :
    iprop(opening m sw K c ∗ free (F := F) c 0 ∗ free (F := F) c 1 ∗ xAll m c ∗ tPts (F := F) c ts)
      ⊢ WP c (cc0_body (F := F) xM (Memref.isWhole_whole _) tM (Memref.isWhole_whole _) oM (Memref.isWhole_whole _) vM (Memref.isWhole_whole _) qM (Memref.isWhole_whole _) rM (Memref.isWhole_whole _) cS sS rS)
        (fun _ => iprop(ended m sw K c ∗ tPts (F := F) c ts)) := by
  cases sw
  · exact wp_body (mode_stay m K c) ts hts
  · exact wp_body (mode_swap m K c) ts hts

/-- At its last round a cell closes: its counter, at zero, is the device's again. -/
theorem close_one (κ : Kd) : iprop(records m sw K ∗ atPos ER (kcell (c, κ)) (lastRound sw) ∅ 0) ⊢ |={Set.univ}=> semVal (kcell (c, κ)) 0 := by
  have hd := duties_none m sw (kcell (c, κ)) (lastRound sw) (fun h => by rw [h]; rfl)
  iintro ⟨#Hr, Hat⟩
  ihave H := (records_at m sw K c κ) $$ Hr
  icases H with ⟨#HI, -⟩
  iapply (Rounds.cell_close ER (rd m sw) (Set.mem_univ (K (c, κ))) (fun h => h) (R := lastRound sw) hd)
  isplitr; · iexact HI
  iexact Hat

/-- After its last round every cell of a device reads zero. -/
theorem close_all : iprop(records m sw K ∗ positions (F := F) c (lastRound sw)) ⊢ |={Set.univ}=> bigSep Finset.univ fun κ : Kd => semVal (kcell (c, κ)) 0 := by
  unfold positions
  exact ((sep_mono_left (BI.bigSep_of_persistent Finset.univ (records m sw K))).trans (Entails.of_eq (bigSep_sep' Finset.univ _ _).symm)).trans
    ((bigSep_mono fun κ _ => close_one m sw K c κ).trans (bigSep_fupd _ _))

end Cert.KernelIdeal.Exchange

end
-- ==== Proof.KernelIdealDeal.lean ====
/-
What the launch deals the devices: the shared cells' invariants, each device's places in its own cells, the tokens of the
duties it pays, and the credit of what its partner owes it.
-/
module

public import proofs.«01_k».proof.Proof.KernelIdealBody

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (sw : Bool) (c : Dev nD)

/-! ## The semaphores -/

/-- The kernel's own semaphores: of the copies, of the transfers at their senders, at their receivers. -/
abbrev osem : Fin 2 ⊕ (Fin 16 ⊕ Fin 16) → SemLoc sig
  | .inl j => .dma (cSem j)
  | .inr (.inl k) => .dma (sSem k)
  | .inr (.inr k) => .dma (rSem k)

/-- The semaphores of the call's scratch are its own. -/
theorem ownSemFacts : Pipeline.OwnSemFacts cfg0.spec osem := by decide +kernel

/-- The copies' counters at zero, and the shared cells'. -/
def copySems : sProp 𝕄 := bigSep Finset.univ fun j : Fin 2 => semVal ((c : Thread nD τ), SemLoc.dma (cSem j)) 0
def sharedSems : sProp 𝕄 := bigSep Finset.univ fun κ : Kd => semVal (kcell (c, κ)) 0

/-- The one semaphore outside the call is the barrier's. -/
theorem unscopedSems0_eq : (unscopedSems0 c : sProp 𝕄) = semVal (kcell (c, none)) 0 := by
  unfold unscopedSems0; rw [bigSep_eq_bigSepL_of_eq [SemLoc.reg barS] (by decide) (by decide)]; rfl

theorem ownSems0_eq : (Pipeline.ownSems0 (Ix := Unit) (Name := ℕ) (U := UU) (Lvl := ℕ) (Val := Elt F) (τ := τ) osem c : sProp 𝕄)
    = iprop(copySems (F := F) c ∗ (bigSep Finset.univ fun k => semVal (kcell (c, kSend k)) 0) ∗ bigSep Finset.univ fun k => semVal (kcell (c, kRecv k)) 0) := by
  unfold Pipeline.ownSems0 copySems
  rw [bigSep_univ_sum, bigSep_univ_sum]; rfl

/-- All semaphores of a device: those of the local copies and the shared ones. -/
theorem sems_eq : iprop(Pipeline.ownSems0 (Ix := Unit) (Name := ℕ) (U := UU) (Lvl := ℕ) (Val := Elt F) (τ := τ) osem c ∗ unscopedSems0 c)
    ⊢ iprop(copySems (F := F) c ∗ sharedSems (F := F) c) := by
  unfold sharedSems
  rw [ownSems0_eq, unscopedSems0_eq, bigSep_kinds]
  iintro ⟨⟨Hc, Hs, Hr⟩, Hb⟩
  isplitl [Hc]; · iexact Hc
  isplitl [Hb]; · iexact Hb
  isplitl [Hs]; · iexact Hs
  iexact Hr
/-- And back. -/
theorem sems_back : iprop(copySems (F := F) c ∗ sharedSems (F := F) c)
    ⊢ iprop(unscopedSems0 c ∗ Pipeline.ownSems0 (Ix := Unit) (Name := ℕ) (U := UU) (Lvl := ℕ) (Val := Elt F) (τ := τ) osem c) := by
  unfold sharedSems
  rw [ownSems0_eq, unscopedSems0_eq, bigSep_kinds]
  iintro ⟨Hc, Hb, Hs, Hr⟩
  isplitl [Hb]; · iexact Hb
  isplitl [Hc]; · iexact Hc
  isplitl [Hs]; · iexact Hs
  iexact Hr

/-! ## The ghost state -/

def sharedCells : Finset (GSem nD τ sig) := Finset.univ.map ⟨kcell, kcell_inj⟩
/-- Different cells have different tokens. -/
theorem tok_inj : Function.Injective fun ck : Dev nD × Kd => ((kcell ck, 0, ()) : GSem nD τ sig × ℕ × Unit) :=
  fun _ _ h => kcell_inj (congrArg Prod.fst h)
def sharedToks : Finset (GSem nD τ sig × ℕ × Unit) := Finset.univ.map ⟨_, tok_inj⟩

def u₀ : UU :=
  (initOf (Pipeline.cells cfgs cellOf_inj) (Pipeline.launchToks cfgs cellOf_inj), (initOf sharedCells sharedToks, 1))

/-- The launch's ghost state falls into the pipeline's part and the exchange's part. -/
theorem split_u₀ : (ownU u₀ : sProp 𝕄) ⊢ iprop(BI.own (EP (initOf (Pipeline.cells cfgs cellOf_inj) (Pipeline.launchToks cfgs cellOf_inj)))
    ∗ BI.own (ER (initOf sharedCells sharedToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf sharedCells sharedToks, (1 : Counters)))))

/-- What a device gets of it, its own cells' shares; and what it starts with once the cells' invariants are made. -/
def G : sProp 𝕄 :=
  iprop((bigSep Finset.univ fun κ : Kd => roundState ER (rd m sw) (kcell (c, κ)) 0) ∗ (bigSep Finset.univ fun κ : Kd => reached ER (kcell (c, κ)) 0)
    ∗ positions (F := F) c 0 ∗ bigSep Finset.univ fun κ : Kd => dutyTok ER (kcell (c, κ)) 0 ())
def G' : sProp 𝕄 := iprop((∃ K, records m sw K) ∗ positions (F := F) c 0 ∗ payToks (F := F) c ∗ copySems (F := F) c)

theorem over_cells (Φ : GSem nD τ sig → sProp 𝕄) :
    bigSep sharedCells Φ = bigSep Finset.univ fun c : Dev nD => bigSep Finset.univ fun κ : Kd => Φ (kcell (c, κ)) := by
  unfold sharedCells; rw [bigSep_map, bigSep_univ_prod]; rfl
theorem over_toks : bigSep sharedToks (fun x => (dutyTok ER x.1 x.2.1 x.2.2 : sProp 𝕄))
    = bigSep Finset.univ fun c : Dev nD => bigSep Finset.univ fun κ : Kd => dutyTok ER (kcell (c, κ)) 0 () := by
  unfold sharedToks; rw [bigSep_map, bigSep_univ_prod]; rfl

/-- The exchange's part, dealt to the devices. -/
theorem deal : BI.own (ER (initOf sharedCells sharedToks)) ⊢ (|==> bigSep Finset.univ (G m sw) : sProp 𝕄) := by
  iintro H
  imod (Rounds.fund ER (rd m sw) sharedCells sharedToks) $$ H with ⟨Hst, Hr, Hat, Htok⟩
  imodintro
  ihave Hst := (Entails.of_eq (over_cells fun g => roundState ER (rd m sw) g 0)) $$ Hst
  ihave Hr := (Entails.of_eq (over_cells fun g => reached ER g 0)) $$ Hr
  ihave Hat := (Entails.of_eq (over_cells fun g => atPos ER g 0 ∅ 0)) $$ Hat
  ihave Htok := (Entails.of_eq over_toks) $$ Htok
  unfold G positions
  simp only [bigSep_sep']
  isplitl [Hst]; · iexact Hst
  isplitl [Hr]; · iexact Hr
  isplitl [Hat]; · iexact Hat
  iexact Htok

/-- A device's cells, their counters at zero, become invariants. -/
theorem alloc_cells : iprop(sharedSems (F := F) c ∗ bigSep Finset.univ fun κ : Kd => roundState ER (rd m sw) (kcell (c, κ)) 0)
    ⊢ |={Set.univ}=> bigSep Finset.univ fun κ : Kd => iprop(∃ n : ℕ, cellInv ER (rd m sw) n (kcell (c, κ))) := by
  unfold sharedSems
  rw [← bigSep_sep']
  exact (bigSep_mono fun κ _ => (Rounds.body_intro ER (rd m sw) (kcell (c, κ))).trans inv_alloc).trans (bigSep_fupd _ _)

/-- One device's part of the launch. -/
def own' : sProp 𝕄 :=
  iprop((bigSep Finset.univ fun κ : Kd => iprop(∃ n : ℕ, cellInv ER (rd m sw) n (kcell (c, κ)))) ∗ (bigSep Finset.univ fun κ : Kd => reached ER (kcell (c, κ)) 0)
    ∗ positions (F := F) c 0 ∗ (bigSep Finset.univ fun κ : Kd => dutyTok ER (kcell (c, κ)) 0 ()) ∗ copySems (F := F) c)

/-- A device's shared cells become invariants. -/
theorem alloc_device : iprop(Pipeline.ownSems0 (Ix := Unit) (Name := ℕ) (U := UU) (Lvl := ℕ) (Val := Elt F) (τ := τ) osem c ∗ unscopedSems0 c ∗ G m sw c)
    ⊢ |={Set.univ}=> own' m sw c := by
  unfold G own'
  iintro ⟨Hos, Hus, Hst, Hr, Hat, Htok⟩
  ihave Hv := (sems_eq (F := F) c) $$ [Hos Hus]
  · isplitl [Hos] <;> iassumption
  icases Hv with ⟨Hc, Hv⟩
  imod (alloc_cells m sw c) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hc

/-- Who pays which cell is a permutation of the cells, -/
def payers : Dev nD × Kd ≃ Dev nD × Kd where
  toFun ck := payCell ck.1 ck.2
  invFun ck := payCell ck.1 ck.2
  left_inv := by rintro ⟨c, _ | _ | _⟩ <;> simp only [payCell, peer_peer]
  right_inv := by rintro ⟨c, _ | _ | _⟩ <;> simp only [payCell, peer_peer]

/-- so the tokens of all the cells are those of all the payers. -/
theorem toks_paid : (bigSep Finset.univ fun c : Dev nD => bigSep Finset.univ fun κ : Kd => (dutyTok ER (kcell (c, κ)) 0 () : sProp 𝕄))
    = bigSep Finset.univ fun c : Dev nD => payToks (F := F) c := by
  unfold payToks
  rw [← bigSep_univ_prod (fun ck : Dev nD × Kd => (dutyTok ER (kcell ck) 0 () : sProp 𝕄)), bigSep_univ_equiv payers, bigSep_univ_prod]
  rfl

/-- What every device needs goes to each. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The devices' shares are put together, so that each knows its partner's cells too. -/
theorem gather : bigSep Finset.univ (own' (F := F) m sw) ⊢ bigSep Finset.univ (G' (F := F) m sw) := by
  unfold own'
  simp only [bigSep_sep']
  rw [← bigSep_univ_prod (fun ck : Dev nD × Kd => iprop(∃ n : ℕ, cellInv ER (rd m sw) n (kcell ck))),
    ← bigSep_univ_prod (fun ck : Dev nD × Kd => (reached ER (kcell ck) 0 : sProp 𝕄)), toks_paid]
  iintro ⟨HI, #HR, Hat, Htok, Hc⟩
  ihave HK := (BI.bigSep_exists_pi Finset.univ (fun (ck : Dev nD × Kd) (n : ℕ) => (cellInv ER (rd m sw) n (kcell ck) : sProp 𝕄))) $$ HI
  icases HK with ⟨%K, #HI⟩
  iapply (share_out (R := records m sw K) (Φ := fun c => iprop(positions (F := F) c 0 ∗ payToks (F := F) c ∗ copySems (F := F) c)) (Ψ := G' m sw) fun c => by
    unfold G'
    iintro ⟨Hr, H⟩
    isplitl [Hr]; · iexists K; iexact Hr
    iexact H)
  isplitr
  · unfold records
    rw [bigSep_sep']
    isplitl; · iexact HI
    iexact HR
  · rw [bigSep_sep', bigSep_sep']
    isplitl [Hat]; · iexact Hat
    isplitl [Htok] <;> iassumption

/-- What the launch gives all devices becomes what each device's body starts from. -/
theorem glob : (bigSep Finset.univ fun c => iprop(Pipeline.ownSems0 (Ix := Unit) (Name := ℕ) (U := UU) (Lvl := ℕ) (Val := Elt F) (τ := τ) osem c ∗ unscopedSems0 c ∗ G m sw c) : sProp 𝕄)
    ⊢ |={Set.univ}=> bigSep Finset.univ (G' m sw) :=
  ((bigSep_mono fun c _ => alloc_device m sw c).trans (bigSep_fupd _ _)).trans (BI.fupd_mono (gather m sw))

/-! ## The credit -/

/-- How many units of a cell its payer owes at launch. -/
def due : Kd → ℕ
  | none => 1
  | some (.inl _) => 0
  | some (.inr _) => N

/-- What device `d` owes a cell of device `c`: only the partner owes anything. -/
theorem owed_at (d : Dev nD) (κ : Kd) : owed₀ true d (kcell (c, κ)) () = if d = peer c then due κ else 0 := by
  unfold owed₀ owedFrom
  rw [if_pos rfl, finFrom_zero]
  simp only [Pi.add_apply, Finsupp.add_apply, Finset.sum_apply, Finsupp.finset_sum_apply, tallyAt_apply, kcell_inj.eq_iff, Prod.mk.injEq, and_true]
  by_cases h : d = peer c
  · subst h
    rw [peer_peer, if_pos rfl]
    rcases κ with _ | k | k <;> simp [due]
  · have h' : c ≠ peer d := fun e => h (by rw [e, peer_peer])
    simp [h, h']

/-- What the launch credits a cell with is what the partner owes it. -/
theorem launch_at (κ : Kd) : tallyOn (kcell (c, κ)) (launchCredit (Pipeline.owing (owed₀ true)) 0 (kcell (c, κ))) = (tallyAt (kcell (c, κ)) () (due κ) : CellTallies nD τ sig Unit) := by
  unfold tallyAt; refine congrArg _ (Finsupp.ext fun u => ?_); cases u
  rw [Pipeline.launchCredit_owing, Finsupp.single_eq_same, Finset.sum_congr rfl fun d _ => owed_at c d κ, Finset.sum_ite_eq' Finset.univ (peer c) fun _ => due κ,
    if_pos (Finset.mem_univ _)]

/-- The launch's credit is the credit that the body spends in its waits. -/
theorem creds : (Pipeline.launchCred (owed₀ sw) c : sProp 𝕄) ⊢ credits (F := F) c sw := by
  cases sw
  · unfold credits; iintro -; iempintro
  unfold Pipeline.launchCred credits
  refine (Entails.of_eq (BI.bigSep_sdiff_split (Finset.subset_univ (Finset.univ.map ⟨ksem, ksem_inj⟩)))).trans ?_
  rw [bigSep_map]
  refine BIBase.Entails.trans sep_elim_left ?_
  refine (Entails.of_eq (bigSep_congr (s := Finset.univ) (Ψ := fun κ : Kd => cred (tallyAt (kcell (c, κ)) () (due κ))) fun κ _ => congrArg cred (launch_at c κ))).trans ?_
  rw [bigSep_kinds]
  iintro ⟨H1, -, H2⟩
  isplitl [H1]; · iexact H1
  iexact H2

end Cert.KernelIdeal.Exchange

end
-- ==== Proof.KernelIdealLaunch.lean ====
/-
The launch of the kernel on all eight devices: for a table that swaps the blocks and for one that leaves them, every run
ends, with the computed result in every device's array, its arguments as they were and every semaphore at zero.
-/
module

public import proofs.«01_k».proof.Proof.KernelIdealDeal
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg) (sw : Bool) (c : Dev nD)

/-- Every device's table holds, at the number of the device's block, the word the mode says. -/
def Table : Prop := ∀ (c : Dev nD) (i : S2.Idx), (i 0).val = c.val % 2 → (m ((c : Thread nD τ).loc main_arg1) : S2.Idx → BitVec 32) i = word sw c

/-- The table as the pipeline stages it. -/
def staged : S2.Idx → BitVec 32 := (win0_0.blk t0_0).view.read (Elt F) (m ((c : Thread nD τ).loc main_arg1))
/-- The staged table is the argument's. -/
theorem staged_eq : staged m c = m ((c : Thread nD τ).loc main_arg1) :=
  Memref.read_access_unit_zero (Elt F) main_arg1
    (show (fun a => (win0_0.index t0_0) a * main_arg1.ty.shape.size a) = fun _ => 0 from funext fun a => by fin_cases a <;> decide)
    (fun a => by fin_cases a <;> decide) _
/-- The result's one block is its whole array. -/
theorem read_result (f : Buf (Elt F) ((c : Thread nD τ).loc main_v1)) : (win0_1.blk t0_0).view.read (Elt F) f = f :=
  Memref.read_access_unit_zero (Elt F) main_v1
    (show (fun a => (win0_1.index t0_0) a * main_v1.ty.shape.size a) = fun _ => 0 from funext fun a => by fin_cases a <;> decide)
    (fun a => by fin_cases a <;> decide) _

abbrev some0 : sProp 𝕄 := iprop(∃ f : Buf (Elt F) ((c : Thread nD τ).loc cc0_scratch0), ((c : Thread nD τ).loc cc0_scratch0) ↦{fullShare} f)

/-- What a device's body starts from, and what it leaves. -/
def start : sProp 𝕄 :=
  iprop(((∃ K, records m sw K) ∗ positions (F := F) c 0 ∗ payToks (F := F) c ∗ copySems (F := F) c) ∗ credits (F := F) c sw ∗ levAts L lv ∗ xAll m c)
def Φ₀ : sProp 𝕄 := iprop(start m sw c ∗ some0 (F := F) c ∗ some1 (F := F) c ∗ some2 (F := F) c)
def Φ₁ : sProp 𝕄 := iprop(xAll m c ∗ copySems (F := F) c ∗ sharedSems (F := F) c ∗ some0 (F := F) c ∗ some1 (F := F) c ∗ some2 (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => staged m c
    | ⟨1, _⟩ => outAt m sw c
  Φ t := match t with
    | ⟨0, _⟩ => Φ₀ m sw c
    | ⟨_ + 1, _⟩ => Φ₁ m c
  q _ := fullShare
  owed t := match t with
    | ⟨0, _⟩ => owed₀ sw c
    | ⟨_ + 1, _⟩ => 0

/-- A whole array is all of its elements. -/
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem two (Φ : Fin 2 → sProp 𝕄) : bigSep Finset.univ Φ = iprop(Φ 0 ∗ Φ 1) := BI.bigSep_fin_two Φ

/-- The double buffer's halves, free, and the buffer with its two counters. -/
theorem halves_free : iprop(some0 (F := F) c ∗ copySems (F := F) c) ⊢ iprop(free (F := F) c 0 ∗ free (F := F) c 1) := by
  unfold copySems free
  rw [two]
  iintro ⟨⟨%f, H⟩, H0, H1⟩
  ihave H := (Entails.of_eq ((vPts_all c f).trans (two _))) $$ H
  icases H with ⟨Ha, Hb⟩
  isplitl [Ha H0]
  · isplitl [Ha]; · iexists f; iexact Ha
    iexact H0
  isplitl [Hb]; · iexists f; iexact Hb
  iexact H1
/-- The two halves, free, are the whole double buffer and the semaphores of the local copies. -/
theorem free_halves : iprop(free (F := F) c 0 ∗ free (F := F) c 1) ⊢ iprop(some0 (F := F) c ∗ copySems (F := F) c) := by
  unfold copySems free
  rw [two]
  iintro ⟨⟨⟨%f, Ha⟩, H0⟩, ⟨%g, Hb⟩, H1⟩
  isplitl [Ha Hb]
  · iapply (vPts_join (F := F) c)
    isplitl [Ha]; · iexists f; iexact Ha
    iexists g; iexact Hb
  isplitl [H0] <;> iassumption

/-! ## The body's obligation -/

def stg (b : Ref sig .tc) (X : b.ty.Contents (Elt F)) : sProp 𝕄 :=
  iprop(∃ f : Buf (Elt F) ((c : Thread nD τ).loc b), ⌜f = X⌝ ∗ (((c : Thread nD τ).loc b) ↦{fullShare} f))

def before : sProp 𝕄 :=
  iprop(Φ₀ m sw c ∗ (dats m ρ sw 0 c).owesAt () t0_0.castSucc
    ∗ (∃ d, stg c cc0_stg0_0 ((dats m ρ sw 0 c).before (0 : Fin 2) t0_0 d)) ∗ (∃ d, stg c cc0_stg1_0 ((dats m ρ sw 0 c).before (1 : Fin 2) t0_0 d)))
def after : sProp 𝕄 :=
  iprop(Φ₁ m c ∗ (dats m ρ sw 0 c).owesAt () t0_0.succ ∗ stg c cc0_stg0_0 (staged m c) ∗ stg c cc0_stg1_0 (outAt m sw c))

/-- What the launch gives a device is what its body starts from. -/
theorem to_opening : before m ρ sw c ⊢ iprop(∃ K, opening m sw K c ∗ free (F := F) c 0 ∗ free (F := F) c 1 ∗ xAll m c ∗ tPts (F := F) c (staged m c)) := by
  unfold before Φ₀ start opening stg
  iintro ⟨⟨⟨⟨⟨%K, Hr⟩, Hat, Htok, Hc⟩, Hcr, Hl, Hx⟩, H0, H1, H2⟩, Ho, ⟨%d0, %g0, %hg0, Ht⟩, ⟨%d1, %g1, %hg1, Hout⟩⟩
  have ht : g0 = staged m c := by rw [hg0]; unfold Dat.before; rw [if_pos (fetch0_0 t0_0)]; rfl
  subst ht
  unfold Dat.owesAt Pipeline.owesWithin
  icases Ho with ⟨%W, %hW, HO⟩
  iexists K
  ihave Hh := (halves_free (F := F) c) $$ [H0 Hc]
  · isplitl [H0] <;> iassumption
  icases Hh with ⟨Ha, Hb⟩
  isplitl [Hr HO Hl Hat Htok Hcr H1 H2 Hout]
  · isplitl [Hr]; · iexact Hr
    isplitl [HO]; · iexists W; iexact HO
    isplitl [Hl]; · iexact Hl
    isplitl [Hat]; · iexact Hat
    isplitl [Htok]; · iexact Htok
    isplitl [Hcr]; · iexact Hcr
    isplitl [H1]; · iexact H1
    isplitl [H2]; · iexact H2
    iexists g1; iexact Hout
  isplitl [Ha]; · iexact Ha
  isplitl [Hb]; · iexact Hb
  isplitl [Hx]; · iexact Hx
  iexact Ht

/-- What a device's body ends with is what the launch expects back. -/
theorem from_ended (K : Dev nD × Kd → ℕ) : iprop(ended m sw K c ∗ tPts (F := F) c (staged m c)) ⊢ |={Set.univ}=> after m ρ sw c := by
  unfold ended closing clear after Φ₁ stg
  iintro ⟨⟨⟨Hr, ⟨%W, HO⟩, Hat, H1, H2, Hout⟩, Ha, Hb, Hx⟩, Ht⟩
  imod (close_all m sw K c) $$ [Hr Hat] with Hs
  · isplitl [Hr] <;> iassumption
  ihave Hh := (free_halves (F := F) c) $$ [Ha Hb]
  · isplitl [Ha] <;> iassumption
  icases Hh with ⟨H0, Hc⟩
  imodintro
  isplitl [Hx Hc Hs H0 H1 H2]
  · isplitl [Hx]; · iexact Hx
    isplitl [Hc]; · iexact Hc
    isplitl [Hs]; · unfold sharedSems; iexact Hs
    isplitl [H0]; · iexact H0
    isplitl [H1] <;> iassumption
  isplitl [HO]
  · unfold Dat.owesAt Pipeline.owesWithin
    iexists W
    isplitr; · ipureintro; exact fun _ _ => Or.inl trivial
    iexact HO
  isplitl [Ht]
  · iexists (staged m c); isplitr; · (ipureintro; rfl)
    iexact Ht
  iexists _; isplitr; · (ipureintro; rfl)
  iexact Hout

/-- The body is sound for what the launch gives and expects. -/
theorem sound_body (h : Table m sw) : before m ρ sw c
    ⊢ WP c (cc0_body (F := F) xM (Memref.isWhole_whole _) tM (Memref.isWhole_whole _) oM (Memref.isWhole_whole _) vM (Memref.isWhole_whole _) qM (Memref.isWhole_whole _) rM (Memref.isWhole_whole _) cS sS rS)
      (fun _ => after m ρ sw c) := by
  refine (to_opening m ρ sw c).trans (exists_elim fun K => ?_)
  exact ((wp_either m sw K c (staged m c) fun i hi => by rw [staged_eq]; exact h c i hi).trans (wp_mono _ _ _ fun _ => from_ended m ρ sw c K)).trans (wp_fupd _ _ _ _ _)

/-- The same, as the launch states it. -/
theorem body_obligation (h : Table m sw) (c : Dev nD) : BodyObligation (dats (F := F) m ρ sw 0 c) (defs₀ (F := F)) 𝒱₀ () Set.univ := fun t => by
  rw [fin_N0 t, bigSep_W0, bigSep_W0]
  simp only [owns_whole]
  exact sound_body m ρ sw c h

/-! ## The launch's side conditions -/

theorem start_intro (c : Dev nD) :
    iprop(Pipeline.unscopedRestP Pipeline.Prefetch.none cfg0.spec c (fun b => m ((c : Thread nD τ).loc b)) ∗ levAts L lv
        ∗ Pipeline.launchCred (owed₀ sw) c ∗ prngReg c (ρ c) ∗ G' m sw c)
      ⊢ |={Set.univ}=> iprop(start m sw c ∗ emp) := by
  rw [Pipeline.unscopedRestP_none, unscopedRest0_eq]
  unfold start G' xAll
  iintro ⟨Hx, Hl, Hcr, -, HG⟩
  ihave Hc := (creds (F := F) sw c) $$ Hcr
  imodintro
  isplitl
  · isplitl [HG]; · iexact HG
    isplitl [Hc]; · iexact Hc
    isplitl [Hl]; · iexact Hl
    iexact Hx
  · iempintro

theorem phi0_intro (c : Dev nD) :
    iprop(start m sw c ∗ Pipeline.prefHeld Pipeline.Prefetch.none c (fun _ => fullShare.right) (fun k => k.elim0) ∗ Pipeline.scopedRest cfg0.spec c)
      ⊢ (dats m ρ sw 0 c).Φ 0 := by
  rw [show (dats m ρ sw 0 c).Φ 0 = Φ₀ m sw c from rfl, scopedRest0_eq]
  unfold Φ₀
  iintro ⟨Hs, -, H0, H1, H2⟩
  iframe

theorem phi1_exit (c : Dev nD) :
    (dats m ρ sw 0 c).Φ (Fin.last cfg0.N) ⊢ iprop((unscopedSems0 c ∗ xAll m c) ∗ Pipeline.ownSems0 osem c ∗ Pipeline.scopedRest cfg0.spec c) := by
  rw [show (dats m ρ sw 0 c).Φ (Fin.last cfg0.N) = Φ₁ m c from rfl, scopedRest0_eq]
  unfold Φ₁
  iintro ⟨Hx, Hc, Hs, H0, H1, H2⟩
  ihave H := (sems_back (F := F) c) $$ [Hc Hs]
  · isplitl [Hc] <;> iassumption
  icases H with ⟨Hu, Ho⟩
  iframe

/-- Each array is held whole. -/
theorem share_eq (c : Dev nD) (w : Fin cfg0.W) : (dats m ρ sw 0 c).share w = fullShare := by
  unfold Dat.share; split <;> rfl

/-- The staging of the table and of the result uses none of the shared semaphores. -/
theorem staging_not_shared : ∀ (w : Fin cfg0.W) (s : Fin (cfg0.win w).nbuf) (κ : Kd), ksem κ ≠ .dma ((cfg0.win w).sem s) := by decide +kernel

/-- The waits of the staging lie below all that is owed. -/
theorem waits (c : Dev nD) : (levAts L lv : sProp 𝕄) ⊢ Pipeline.cellsWaits cfgs (dats m ρ sw) () 0 c :=
  Pipeline.cellsWaits_intro cfgs (dats m ρ sw) () 0 c fun w s t =>
    mayWait c _ _ (by
      have h0 : lv ((c : Thread nD τ), SemLoc.dma ((cfg0.win w).sem s)) () = 0 := by
        unfold lv
        rw [kindOf_none (staging_not_shared w s)]
      rw [h0]
      rcases t with ⟨_ | _, ht⟩
      · exact above_owed₀ sw c
      · exact above_zero 0)

/-! ## The run -/

/-- What a device's arrays hold when the launch is over. -/
def finalA (c : Dev nD) (w : Fin cfg0.W) : Buf (Elt F) ((cfg0.win w).arr.view.loc (c : Thread nD τ)) := (dats m ρ sw 0 c).arrAt w cfg0.N

/-- At the end the table is as it was, and the result is the computed one. -/
theorem final_table (c : Dev nD) : finalA m ρ sw c (0 : Fin 2) = m ((c : Thread nD τ).loc main_arg1) :=
  (dats (F := F) m ρ sw 0 c).arrAt_in (0 : Fin 2) rfl _

theorem final_result (c : Dev nD) : finalA m ρ sw c (1 : Fin 2) = outAt m sw c := by
  have hw : ((cfg0.win 1).blk t0_0).view.read (Elt F) ((dats m ρ sw 0 c).arrAt 1 cfg0.N) = outAt m sw c := by
    rw [show cfg0.N = t0_0.val + 1 from rfl, (dats m ρ sw 0 c).arrAt_succ (1 : Fin 2) t0_0, flush0_1, if_pos rfl]
    exact View.read_write_univ _ _
  exact (read_result c _).symm.trans hw

/-- What every run ends in: each device's result, its arguments as they were, and every counter at zero. -/
def Ended (r : PUnit × MemSt nD τ sig (Elt F)) : Prop :=
  (∀ c : Dev nD, r.2.mem ((c : Thread nD τ).loc main_v1) = outAt m sw c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- The block of `x` is as it was. -/
theorem x_read (c : Dev nD) (s : Phys nD τ sig (Elt F)) : iprop(xAll m c ∗ SI s) ⊢ (⌜s.mem.mem ((c : Thread nD τ).loc main_arg0) = m ((c : Thread nD τ).loc main_arg0)⌝ : sProp 𝕄) := by
  refine (sep_comm.1.trans SI_pointsTo_agree).trans (BI.pure_mono fun h => Buf.eq_of_forall_mem_univ h)

set_option maxRecDepth 8000 in
/-- The run of the whole program, for either table. -/
theorem run_main (h : Table m sw) : θ_run defs (onTc (τ := τ) (main (F := F))) (s₀ m ρ) (Ended m sw) :=
  Pipeline.θ_run_region_owing_glob_pf (fun p => (cfgs p).toPCfg) (fun p => (cfgs p).toPCfg_adm) (dats m ρ sw) () cellOf_inj (0 : Fin 1)
    winFacts0.to₀ ownSemFacts (Pipeline.PreFacts.none _) EP defs₀ 𝒱₀ m ρ main
    (hmain := fun _ => rfl)
    (hbody := body_obligation m ρ sw h) (hne := fun w => by fin_cases w <;> exact Nat.succ_pos _) (harr := arr_whole0) (hstage := stage_whole0)
    (hshare := share_eq m ρ sw) (hdistinct := winFacts0.arr_inj)
    (O₀ := owed₀ sw) (howed₀ := fun _ => rfl) (howedN := fun _ => rfl)
    (L := L) (lv := lv) (hL := L_of_ne) (hwaits := waits m ρ sw)
    (G := G m sw) (G' := G' m sw) (u₀ := u₀)
    (hu₀ := by
      iintro Hu
      ihave H := (split_u₀ (F := F)) $$ Hu
      icases H with ⟨HP, HX⟩
      imod (deal m sw) $$ HX with HG
      imodintro
      isplitl [HP] <;> iassumption)
    (hglob := glob m sw)
    (hA := fun _ _ => rfl) (hpf := fun _ k => k.elim0)
    (X := start m sw) (Y := fun c => iprop(unscopedSems0 c ∗ xAll m c)) (Z := fun _ => iprop(emp))
    (hX := start_intro m ρ sw) (hin := phi0_intro m ρ sw) (hout := phi1_exit m ρ sw)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hu, Hx⟩, -, HSI⟩
      ihave %hx := (x_read m c s') $$ [Hx HSI]
      · isplitl [Hx] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hx, hs⟩
      iexact HSI)
    (hQ := fun r h hs => ⟨fun c => ⟨((h c).1 1).trans (final_result m ρ sw c), (h c).2.2.1, ((h c).1 0).trans (final_table m ρ sw c)⟩,
      sem_eq_zero hs fun c => (h c).2.2.2⟩)

end Cert.KernelIdeal.Exchange

end
-- ==== Proof.Quantiser.lean ====
/-
The quantiser over the extended reals: an element rounded to the 8-bit grid, sent, and read back is the rounded and
clipped element itself, times the grid's step.
-/
module

public import proofs.«01_k».proof.Proof.KernelIdealChunks
public import Idealize.ShloMosaic.PureOps.Ideal
public import Idealize.ShloMosaic.PureOps.Ideal.Laws
public import Mathlib.Tactic.NormNum

@[expose] public section

noncomputable section

namespace Cert.KernelIdeal.Exchange

open Cert.KernelIdeal Cert.KernelIdeal.Gen
open Idealize.ShloMosaic

/-- An element rounded to the grid and clipped to it, not yet a word. -/
def onGrid (a : EReal) : EReal :=
  min (Ideal.ofBits .f32 0x42FE0000#32) (max (Ideal.ofBits .f32 0xC2FE0000#32) (Ideal.liftRound Ideal.roundHalfEven (a * Ideal.ofBits .f32 0x41A95555#32)))

/-- The two ends of the grid. -/
theorem hi_eq : Ideal.ofBits .f32 0x42FE0000#32 = ((127 : ℝ) : EReal) := by
  simp [Ideal.ofBits, Ideal.ieee, -EReal.coe_mul]; norm_num
theorem lo_eq : Ideal.ofBits .f32 0xC2FE0000#32 = ((-127 : ℝ) : EReal) := by
  simp [Ideal.ofBits, Ideal.ieee, -EReal.coe_mul]; norm_num

/-- A rounded and clipped element is an integer between -127 and 127. -/
theorem onGrid_int (a : EReal) : ∃ n : ℤ, -127 ≤ n ∧ n ≤ 127 ∧ onGrid a = ((n : ℝ) : EReal) := by
  unfold onGrid
  rw [hi_eq, lo_eq]
  have h : ∀ z : EReal, (z = ⊥ ∨ z = ⊤ ∨ ∃ n : ℤ, z = ((n : ℝ) : EReal)) →
      ∃ n : ℤ, -127 ≤ n ∧ n ≤ 127 ∧ min ((127 : ℝ) : EReal) (max ((-127 : ℝ) : EReal) z) = ((n : ℝ) : EReal) := by
    rintro z (rfl | rfl | ⟨n, rfl⟩)
    · refine ⟨-127, by omega, by omega, ?_⟩
      rw [max_eq_left bot_le, min_eq_right (EReal.coe_le_coe_iff.mpr (by norm_num))]; norm_num
    · refine ⟨127, by omega, by omega, ?_⟩
      rw [max_eq_right le_top, min_eq_left le_top]; norm_num
    · refine ⟨min 127 (max (-127) n), by omega, by omega, ?_⟩
      rw [← EReal.coe_strictMono.monotone.map_max, ← EReal.coe_strictMono.monotone.map_min]
      push_cast
      rfl
  refine h _ ?_
  rcases a * Ideal.ofBits .f32 0x41A95555#32 with _ | _ | r
  · exact Or.inl rfl
  · exact Or.inr (Or.inl rfl)
  · exact Or.inr (Or.inr ⟨_, rfl⟩)

/-- An integer of the grid survives the 8-bit word. -/
theorem word_back (n : ℤ) (h : -127 ≤ n) (h' : n ≤ 127) : (Ideal.fptosi 8 ((n : ℝ) : EReal)).toInt = n := by
  unfold Ideal.fptosi
  rw [Ideal.toIntClamped_coe]
  have hf : (if (0 : ℝ) ≤ (n : ℝ) then ⌊(n : ℝ)⌋ else ⌈(n : ℝ)⌉) = n := by rw [Int.floor_intCast, Int.ceil_intCast, ite_self]
  rw [hf]
  have hc : max (-((2 ^ (8 - 1) : ℕ) : ℤ)) (min (((2 ^ (8 - 1) : ℕ) : ℤ) - 1) n) = n := by norm_num; omega
  rw [hc, BitVec.toInt_ofInt]
  exact Int.bmod_eq_of_le (by norm_num; omega) (by norm_num; omega)

/-- Quantised, sent and read back: the rounded and clipped element times the step. -/
theorem delt_qelt (a : EReal) : (delt (F := Ideal) (qelt (F := Ideal) a) : EReal) = onGrid a * Ideal.ofBits .f32 0x3D418306#32 := by
  obtain ⟨n, h, h', e⟩ := onGrid_int a
  have hq : qelt (F := Ideal) a = Ideal.fptosi 8 (onGrid a) := rfl
  have hd : ∀ b : BitVec 8, (delt (F := Ideal) b : EReal) = ((b.toInt : ℝ) : EReal) * Ideal.ofBits .f32 0x3D418306#32 := fun _ => rfl
  rw [hd, hq, e, word_back n h h']

/-- Over the extended reals an element stored directly is itself. -/
theorem kelt_eq (a : EReal) : (kelt (F := Ideal) a : EReal) = a := rfl

end Cert.KernelIdeal.Exchange

end
-- ==== Proof.Reference.lean ====
/-
The reference read at an index: with the table of a swap, row `k` of the result is the other row rounded to the grid;
with the table of the identity it is row `k` itself.
-/
module

public import proofs.«01_k».proof.Proof.Gen.ReferenceIdeal.Run
public import proofs.«01_k».proof.Proof.Quantiser

@[expose] public section

noncomputable section

namespace Cert.ReferenceIdeal.Exchange

open Cert.ReferenceIdeal Cert.ReferenceIdeal.Gen
open Idealize.ShloMosaic Idealize.ShloMosaic.TcCoe Idealize.SL.Sem
open Cert.KernelIdeal.Exchange (onGrid)

variable {F : FTy → Type} [FloatOps F]

/-- The row that row `k` of the result comes from. -/
def origin (sw : Bool) (k : Fin 2) : Fin 2 := if sw then k.rev else k

/-- The table as it stands in memory: entry `k` names the origin of row `k`. -/
def table (sw : Bool) : IVec S2 32 := fun i => BitVec.ofNat 32 (origin sw (i 0)).val

/-- The index of a two-entry table at entry `k`. -/
abbrev at2 (k : Fin 2) : S2.Idx := fun a => match a with | ⟨0, _⟩ => k

/-- The place in the argument that the result's place `j` comes from. -/
def place (sw : Bool) (j : S2x4096x2048.Idx) : S2x4096x2048.Idx := Function.update j (0 : Fin 3) (origin sw (j 0))

/-- The sorting positions of a table. -/
def order (p : IVec S2 32) : IVec S2 32 := (Host.sort2 S2 0 comparator_i32_i32_d0 p (iotaInDim S2 32 0)).2

/-- The same positions, a negative one counted from the end. -/
def wrapped (p : IVec S2 32) : IVec S2 32 :=
  select (cmpi .slt (order p) (broadcastInDim S2 ![] bcast_S_S2 (constantI S_ 32 0#32)))
    (addi (order p) (broadcastInDim S2 ![] bcast_S_S2 (constantI S_ 32 2#32))) (order p)

/-- The argument's rows taken at those positions. -/
def rows (x : FVec F S2x4096x2048 .f32) (p : IVec S2 32) : FVec F S2x4096x2048 .f32 :=
  Host.gather gather_S2x4096x2048_S2x1_S2x4096x2048_12_0_n_n_0_1_140962048 x (broadcastInDim S2x1 ![0] bcast_S2_S2x1_0 (wrapped p))

/-- One and the same number at every place of the result. -/
def all (b : BitVec 32) : FVec F S2x4096x2048 .f32 := broadcastInDim S2x4096x2048 ![] bcast_S_S2x4096x2048 (constant S_ .f32 b)

/-- Which rows of the result come from another row. -/
def moved (p : IVec S2 32) : IVec S2x4096x2048 1 :=
  broadcastInDim S2x4096x2048 ![0, 1, 2] bcast_S2x1x1_S2x4096x2048_0_1_2
    (broadcastInDim S2x1x1 ![0] bcast_S2_S2x1x1_0 (cmpi .ne (order p) (iotaInDim S2 32 0)))

/-- What the reference computes of its two arguments. -/
def value (x : FVec F S2x4096x2048 .f32) (p : IVec S2 32) : FVec F S2x4096x2048 .bf16 :=
  truncf .bf16
    (select (moved p)
      (mulf (minimumf (all 0x42FE0000#32) (maximumf (all 0xC2FE0000#32) (Host.roundeven (mulf (rows x p) (all 0x41A95555#32)))))
        (all 0x3D418306#32))
      (rows x p)) bitsLt_bf16_f32

/-- The reference's run: its result is `value` of its arguments, which stay, and no semaphore is left raised. -/
theorem run_value (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v18) = value (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨h, Idealize.ShloMosaic.sem_eq_zero_of_no_sems (by decide) r.2⟩) (Value.run m ρ)

/-- An index of a two-entry table is its one coordinate. -/
theorem entry (i : S2.Idx) : i = at2 (i 0) := funext fun a => by obtain rfl : a = 0 := Subsingleton.elim _ _; rfl

/-- Sorting either table gives the table back: each is its own inverse. -/
theorem order_table (sw : Bool) : order (table sw) = table sw := by
  have h : ∀ (sw : Bool) (k : Fin 2), order (table sw) (at2 k) = table sw (at2 k) := by decide +kernel
  funext i
  rw [entry i]
  exact h sw (i 0)

/-- No entry of either table is negative. -/
theorem wrapped_table (sw : Bool) : wrapped (table sw) = table sw := by
  unfold wrapped
  rw [order_table]
  have h : ∀ (sw : Bool) (k : Fin 2), (select (cmpi .slt (table sw) (broadcastInDim S2 ![] bcast_S_S2 (constantI S_ 32 0#32)))
    (addi (table sw) (broadcastInDim S2 ![] bcast_S_S2 (constantI S_ 32 2#32))) (table sw)) (at2 k) = table sw (at2 k) := by
    decide +kernel
  funext i
  rw [entry i]
  exact h sw (i 0)

/-- With the table of a swap every row moves, with the table of the identity none. -/
theorem moved_table (sw : Bool) (j : S2x4096x2048.Idx) : moved (table sw) j = if sw then 1#1 else 0#1 := by
  have h : ∀ (sw : Bool) (k : Fin 2), cmpi .ne (table sw) (iotaInDim S2 32 0) (at2 k) = if sw then 1#1 else 0#1 := by
    decide +kernel
  unfold moved
  rw [order_table, ← h sw (j 0)]
  refine congrArg (cmpi .ne (table sw) (iotaInDim S2 32 0)) ?_
  funext a
  obtain rfl : a = 0 := Subsingleton.elim _ _
  rfl

/-- The rows taken at a table's positions are the rows the table names. -/
theorem rows_table (x : FVec F S2x4096x2048 .f32) (sw : Bool) (j : S2x4096x2048.Idx) : rows x (table sw) j = x (place sw j) := by
  unfold rows
  rw [wrapped_table]
  unfold Host.gather
  refine congrArg x (funext fun a => Fin.ext ?_)
  have h : ∀ (sw : Bool) (k : Fin 2), min (table sw (at2 k)).toInt.toNat 1 = (origin sw k).val := by decide +kernel
  match a with
  | ⟨0, _⟩ =>
    refine Eq.trans ?_ (h sw (j 0))
    rfl
  | ⟨1, _⟩ => exact Nat.zero_add _
  | ⟨2, _⟩ => exact Nat.zero_add _

/-- The reference of a swap, at an index: the element from the other row, rounded to the grid and scaled back. -/
theorem value_swap (x : FVec Ideal S2x4096x2048 .f32) (j : S2x4096x2048.Idx) :
    (value x (table true) j : EReal) = onGrid (x (place true j)) * Ideal.ofBits .f32 0x3D418306#32 := by
  have hr := rows_table x true j
  have hm := moved_table true j
  show (if moved (table true) j = 1#1 then onGrid (rows x (table true) j) * Ideal.ofBits .f32 0x3D418306#32 else rows x (table true) j : EReal) = _
  rw [hr, hm]
  rfl

/-- The reference of the identity, at an index: the element itself. -/
theorem value_stay (x : FVec Ideal S2x4096x2048 .f32) (j : S2x4096x2048.Idx) : (value x (table false) j : EReal) = x j := by
  have hr := rows_table x false j
  have hm := moved_table false j
  show (if moved (table false) j = 1#1 then onGrid (rows x (table false) j) * Ideal.ofBits .f32 0x3D418306#32 else rows x (table false) j : EReal) = _
  rw [hr, hm]
  exact congrArg x (Function.update_eq_self _ _)

end Cert.ReferenceIdeal.Exchange

end
-- ==== Proof.Tables.lean ====
/-
What the two preconditions say of a device's copy of the table: it is the table of a swap, or the table of the identity.
-/
module

public import proofs.«01_k».proof.Proof.Gen.Pre_is_swap_Kernel
public import proofs.«01_k».proof.Proof.Gen.Pre_is_identity_Kernel
public import proofs.«01_k».proof.Proof.Reference

@[expose] public section

noncomputable section

namespace Cert.ReferenceIdeal.Exchange

open Cert.ReferenceIdeal
open Idealize.ShloMosaic

variable {F : FTy → Type} [FloatOps F]

/-- Two words that compare equal are equal. -/
theorem eq_of_cmpi (a b : BitVec 32) (h : IntOp.cmpi .eq a b = 1#1) : a = b := by
  by_contra hne
  have : IntOp.cmpi .eq a b = 0#1 := by
    show BitVec.ofBool (a == b) = 0#1
    rw [beq_eq_false_iff_ne.mpr hne]
    rfl
  rw [this] at h
  exact absurd h (by decide)

/-- Where `is_swap` holds of a device's block and table, the table is that of a swap. -/
theorem table_of_swap (x : FVec F Cert.Pre_is_swap_Kernel.S1x4096x2048 .f32) (p : IVec S2 32)
    (h : Cert.Pre_is_swap_Kernel.fn x p = fun _ => 1#1) : p = table true := by
  have hk : ∀ k : Fin 2, (1#32 - BitVec.ofNat 32 k.val) = table true (at2 k) := by decide +kernel
  funext i
  have e : p i = 1#32 - BitVec.ofNat 32 (i 0).val := eq_of_cmpi _ _ (congrFun h i)
  exact (e.trans (hk (i 0))).trans (congrArg (table true) (entry i).symm)

/-- Where `is_identity` holds of a device's block and table, the table is that of the identity. -/
theorem table_of_identity (x : FVec F Cert.Pre_is_identity_Kernel.S1x4096x2048 .f32) (p : IVec S2 32)
    (h : Cert.Pre_is_identity_Kernel.fn x p = fun _ => 1#1) : p = table false := by
  funext i
  exact eq_of_cmpi _ _ (congrFun h i)

/-- An entry of a table is the word the kernel's device reads there. -/
theorem table_entry (sw : Bool) (i : S2.Idx) (n : Nat) (h : (i 0).val = n % 2) :
    table sw i = if sw then BitVec.ofNat 32 (1 - n % 2) else BitVec.ofNat 32 (n % 2) := by
  cases sw
  · exact congrArg (BitVec.ofNat 32) h
  · refine congrArg (BitVec.ofNat 32) ?_
    rw [← h]
    have h1 : (i 0).val < 2 := (i 0).isLt
    have h2 : (origin true (i 0)).val = 2 - ((i 0).val + 1) := Fin.val_rev (n := 2) (i 0)
    omega

end Cert.ReferenceIdeal.Exchange

end
-- ==== Proof.KernelIdealFrame.lean ====
/-
The run of the kernel under either precondition: every device's table is the one the precondition names, so the launch's
theorem applies, and its arguments and semaphores end as they began.
-/
module

public import proofs.«01_k».proof.Proof.KernelIdealLaunch
public import proofs.«01_k».proof.Proof.Tables

@[expose] public section

noncomputable section

namespace Cert.KernelIdeal.Exchange

open Cert.KernelIdeal Cert.KernelIdeal.Gen
open Idealize.ShloMosaic Idealize.ShloMosaic.TcCoe Idealize.SL.Sem

variable {F : FTy → Type} [FloatOps F]

/-- If every device's copy of the argument is one and the same of the two tables, the devices read what the launch assumes. -/
theorem table_read (m : (ℓ : Loc nD τ sig) → Buf (Elt F) ℓ) (sw : Bool)
    (h : ∀ c : Dev nD, m ((c.tc : Thread nD τ).loc main_arg1) = Cert.ReferenceIdeal.Exchange.table sw) : Table m sw := by
  intro c i hi
  exact (congrFun (h c) i).trans (Cert.ReferenceIdeal.Exchange.table_entry sw i c.val hi)

/-- A run that ends as the launch says leaves the arguments as they were and every semaphore at zero. -/
theorem frame_main (m : (ℓ : Loc nD τ sig) → Buf (Elt F) ℓ) (ρ : Dev nD → PrngReg) (sw : Bool)
    (h : ∀ c : Dev nD, m ((c.tc : Thread nD τ).loc main_arg1) = Cert.ReferenceIdeal.Exchange.table sw) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ hr => ⟨fun c => ⟨(hr.1 c).2.1, (hr.1 c).2.2⟩, hr.2⟩) (run_main m ρ sw (table_read m sw h))

end Cert.KernelIdeal.Exchange

end
-- ==== Proof.Blocks.lean ====
/-
The kernel's result is the reference's, block by block: device `c` holds block `c % 2`, its partner across the last mesh
axis the other one.
-/
module

public import proofs.«01_k».proof.Proof.KernelIdealFrame
public import Idealize.ShloMosaic.Lib.Layout

@[expose] public section

noncomputable section

namespace Cert.KernelIdeal.Exchange

open Cert.KernelIdeal Cert.KernelIdeal.Gen
open Idealize.ShloMosaic Idealize.ShloMosaic.TcCoe Idealize.SL.Sem
open Cert.ReferenceIdeal.Exchange (value table place origin value_swap value_stay)

/-- Device `c`'s block of a whole array. -/
def blockOf {α : Type} (c : Dev nD) (v : (⟨3, ![2, 4096, 2048]⟩ : Shape).Idx → α) : (⟨3, ![1, 4096, 2048]⟩ : Shape).Idx → α :=
  Layout.blockN ⟨3, ![1, 4096, 2048]⟩ ⟨3, ![2, 4096, 2048]⟩ (Layout.meshBlock [2, 2, 2] ![[2], [], []] c) v

/-- Where an element of a device's block is in the whole array. -/
def spot (c : Dev nD) (i : (⟨3, ![1, 4096, 2048]⟩ : Shape).Idx) : (⟨3, ![2, 4096, 2048]⟩ : Shape).Idx :=
  Layout.TilesN.idx (S := ⟨3, ![1, 4096, 2048]⟩) (T := ⟨3, ![2, 4096, 2048]⟩) (by decide) (Layout.meshBlock [2, 2, 2] ![[2], [], []] c) i

/-- A block read at an index. -/
theorem blockOf_apply {α : Type} (c : Dev nD) (v : (⟨3, ![2, 4096, 2048]⟩ : Shape).Idx → α) (i : (⟨3, ![1, 4096, 2048]⟩ : Shape).Idx) :
    blockOf c v i = v (spot c i) := rfl

/-- The partner's block is the other one. -/
theorem lin_peer : ∀ c : Dev nD, Layout.meshLin [2, 2, 2] (peer c).val [2] = 1 - Layout.meshLin [2, 2, 2] c.val [2] := by decide

/-- An element of the partner's block lies where the swap takes the element of the device's own block from. -/
theorem spot_peer (c : Dev nD) (i : (⟨3, ![1, 4096, 2048]⟩ : Shape).Idx) : spot (peer c) i = place true (spot c i) := by
  have h0 : (i 0).val < 1 := (i 0).isLt
  have hp := lin_peer c
  funext a
  refine Fin.ext ?_
  match a with
  | ⟨0, _⟩ =>
    have e : ∀ d : Dev nD, (spot d i 0).val = Layout.meshLin [2, 2, 2] d.val [2] * 1 + (i 0).val := fun _ => rfl
    have er : (place true (spot c i) 0).val = 2 - ((spot c i 0).val + 1) := Fin.val_rev (n := 2) (spot c i 0)
    show (spot (peer c) i 0).val = (place true (spot c i) 0).val
    rw [er, e, e]
    omega
  | ⟨1, _⟩ => rfl
  | ⟨2, _⟩ => rfl

/-- Each device's result is its block of what the reference computes of the whole arrays. -/
theorem outAt_block (m : (ℓ : Loc nD τ sig) → Buf (Elt Ideal) ℓ) (X : (⟨3, ![2, 4096, 2048]⟩ : Shape).Idx → EReal) (sw : Bool)
    (h : ∀ c : Dev nD, m ((c.tc : Thread nD τ).loc main_arg0) = blockOf c X) (c : Dev nD) :
    outAt m sw c = blockOf c (value (F := Ideal) X (table sw)) := by
  funext i
  cases sw
  · have hx : xOf m c i = X (spot c i) := congrFun (h c) i
    refine Eq.trans (b := X (spot c i)) ?_ (value_stay X (spot c i)).symm
    exact hx
  · have hx : xOf m (peer c) i = X (spot (peer c) i) := congrFun (h (peer c)) i
    refine Eq.trans (b := onGrid (X (place true (spot c i))) * Ideal.ofBits .f32 0x3D418306#32) ?_ (value_swap X (spot c i)).symm
    rw [← spot_peer, ← hx]
    exact delt_qelt (xOf m (peer c) i)

end Cert.KernelIdeal.Exchange

end
-- ==== Proof.Accuracy.lean ====
/-
How far the rounding takes an element between -6 and 6: no farther than half a step of the grid, and what the constants'
own rounding adds. So the reference stays that close to the plain gather of the rows.
-/
module

public import proofs.«01_k».proof.Proof.Gen.Pre_within_range
public import proofs.«01_k».proof.Proof.Gen.Post_near_gather
public import proofs.«01_k».proof.Proof.Reference
public import Mathlib.Tactic.Linarith

@[expose] public section

noncomputable section

namespace Cert.ReferenceIdeal.Exchange

open Cert.ReferenceIdeal Cert.ReferenceIdeal.Gen
open Idealize.ShloMosaic Idealize.ShloMosaic.TcCoe Idealize.SL.Sem
open Cert.KernelIdeal.Exchange (onGrid hi_eq lo_eq)

/-- The literals of the reference and of the two predicates as the rationals that they are. -/
theorem six_eq : Ideal.ofBits .f32 0x40C00000#32 = ((6 : ℝ) : EReal) := by
  simp [Ideal.ofBits, Ideal.ieee, -EReal.coe_mul]; norm_num
theorem inverse_eq : Ideal.ofBits .f32 0x41A95555#32 = ((11097429 / 524288 : ℝ) : EReal) := by
  simp [Ideal.ofBits, Ideal.ieee, -EReal.coe_mul]; norm_num
theorem step_eq : Ideal.ofBits .f32 0x3D418306#32 = ((12681990 / 268435456 : ℝ) : EReal) := by
  simp [Ideal.ofBits, Ideal.ieee, -EReal.coe_mul]; norm_num
theorem bound_eq : Ideal.ofBits .f32 0x3CC193B4#32 = ((12686260 / 536870912 : ℝ) : EReal) := by
  simp [Ideal.ofBits, Ideal.ieee, -EReal.coe_mul]; norm_num

/-- A real number is at most a half away from its rounding. -/
theorem round_near (t : ℝ) : |(Ideal.roundHalfEven t : ℝ) - t| ≤ 1 / 2 := by
  have h1 := Int.floor_le t
  have h2 := Int.lt_floor_add_one t
  unfold Ideal.roundHalfEven
  dsimp only
  rw [abs_le]
  split_ifs <;> constructor <;> push_cast <;> linarith

/-- An element between -6 and 6 is rounded, and not clipped. -/
theorem onGrid_coe (y : ℝ) (h : |y| ≤ 6) :
    onGrid (y : EReal) = ((Ideal.roundHalfEven (y * (11097429 / 524288)) : ℝ) : EReal) := by
  obtain ⟨hl, hu⟩ := abs_le.mp h
  obtain ⟨rl, ru⟩ := abs_le.mp (round_near (y * (11097429 / 524288)))
  generalize hn : Ideal.roundHalfEven (y * (11097429 / 524288)) = n at *
  have hn1 : n < 128 := by have : (n : ℝ) < 128 := by linarith
                           exact_mod_cast this
  have hn2 : -128 < n := by have : (-128 : ℝ) < (n : ℝ) := by linarith
                            exact_mod_cast this
  have e1 : (n : ℝ) ≤ 127 := by exact_mod_cast (by omega : n ≤ 127)
  have e2 : (-127 : ℝ) ≤ (n : ℝ) := by exact_mod_cast (by omega : -127 ≤ n)
  unfold onGrid
  rw [hi_eq, lo_eq, inverse_eq, ← EReal.coe_mul, Ideal.liftRound_coe, hn,
    max_eq_right (EReal.coe_le_coe_iff.mpr e2), min_eq_right (EReal.coe_le_coe_iff.mpr e1)]

/-- The distance over the reals. -/
theorem near_real (y : ℝ) (h : |y| ≤ 6) :
    |(Ideal.roundHalfEven (y * (11097429 / 524288)) : ℝ) * (12681990 / 268435456) - y| ≤ 12686260 / 536870912 := by
  obtain ⟨hl, hu⟩ := abs_le.mp h
  obtain ⟨rl, ru⟩ := abs_le.mp (round_near (y * (11097429 / 524288)))
  rw [abs_le]
  constructor <;> linarith

/-- An extended real at most 6 in size is a real number. -/
theorem real_of_small (a : EReal) (h : max a (-a) ≤ ((6 : ℝ) : EReal)) : ∃ y : ℝ, a = (y : EReal) ∧ |y| ≤ 6 := by
  obtain ⟨h1, h2⟩ := max_le_iff.mp h
  induction a using EReal.rec with
  | bot => exact absurd h2 (by rw [EReal.neg_bot]; exact not_le.mpr (EReal.coe_lt_top 6))
  | top => exact absurd h1 (not_le.mpr (EReal.coe_lt_top 6))
  | coe y =>
    rw [← EReal.coe_neg] at h2
    have h1 := EReal.coe_le_coe_iff.mp h1
    have h2 := EReal.coe_le_coe_iff.mp h2
    exact ⟨y, rfl, abs_le.mpr ⟨by linarith, h1⟩⟩

/-- A comparison that holds gives a word of one. -/
theorem ole_one (a b : EReal) (h : a ≤ b) : Ideal.cmp .ole a b = 1#1 := by
  simp [Ideal.cmp, h]

/-- A word of one comes of a comparison that holds. -/
theorem le_of_ole (a b : EReal) (h : Ideal.cmp .ole a b = 1#1) : a ≤ b := by
  by_contra hn
  have : Ideal.cmp .ole a b = 0#1 := by simp [Ideal.cmp, hn]
  rw [this] at h
  exact absurd h (by decide)

/-- The size of a difference of two reals. -/
theorem dist_coe (u v : ℝ) : max ((u : EReal) - (v : EReal)) (-((u : EReal) - (v : EReal))) = ((|u - v| : ℝ) : EReal) := by
  rw [← EReal.coe_sub, ← EReal.coe_neg, ← EReal.coe_strictMono.monotone.map_max]
  rfl

/-- Whatever the table: where no element of the argument is larger than 6, no element of the result is farther from the
gathered one than the bound. -/
theorem near_value (x : FVec Ideal S2x4096x2048 .f32) (p : IVec S2 32)
    (h : Cert.Pre_within_range.fn x p = fun _ => 1#1) : Cert.Post_near_gather.fn x p (value x p) = fun _ => 1#1 := by
  have hx : ∀ j, ∃ y : ℝ, (x j : EReal) = (y : EReal) ∧ |y| ≤ 6 := fun j =>
    real_of_small (x j) (le_of_ole _ _ (by rw [← six_eq]; exact congrFun h j))
  funext j
  have hy : ∃ y : ℝ, (rows x p j : EReal) = (y : EReal) ∧ |y| ≤ 6 := hx _
  obtain ⟨y, ey, hy⟩ := hy
  have ev : (value x p j : EReal) = if moved p j = 1#1 then onGrid (rows x p j) * Ideal.ofBits .f32 0x3D418306#32 else rows x p j := rfl
  show Ideal.cmp .ole (max ((value x p j : EReal) - rows x p j) (-((value x p j : EReal) - rows x p j))) (Ideal.ofBits .f32 0x3CC193B4#32) = 1#1
  refine ole_one _ _ ?_
  rw [ev, ey, bound_eq]
  split_ifs
  · rw [onGrid_coe y hy, step_eq, ← EReal.coe_mul, dist_coe]
    exact EReal.coe_le_coe_iff.mpr (near_real y hy)
  · rw [dist_coe]
    exact EReal.coe_le_coe_iff.mpr (by rw [sub_self, abs_zero]; norm_num)

end Cert.ReferenceIdeal.Exchange

end
-- ==== Proof.lean ====
/- The certificate's claim: the frames, the ideal program, and the values of both permutations of the two blocks. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_is_swap_Kernel
public import proofs.«01_k».proof.Proof.Gen.Pre_is_swap_ReferenceIdeal
public import proofs.«01_k».proof.Proof.Gen.Pre_is_identity_Kernel
public import proofs.«01_k».proof.Proof.Gen.Pre_is_identity_ReferenceIdeal
public import proofs.«01_k».proof.Proof.Gen.Pre_within_range
public import proofs.«01_k».proof.Proof.Gen.Post_near_gather
public import proofs.«01_k».proof.Proof.KernelLaunch
public import proofs.«01_k».proof.Proof.KernelIdealLaunch
public import proofs.«01_k».proof.Proof.KernelFrame
public import proofs.«01_k».proof.Proof.KernelIdealFrame
public import proofs.«01_k».proof.Proof.Tables
public import proofs.«01_k».proof.Proof.Blocks
public import proofs.«01_k».proof.Proof.Accuracy

@[expose] public section

noncomputable section

namespace Cert.Proof

open Idealize.ShloMosaic Idealize.ShloMosaic.TcCoe Idealize.SL.Sem
open Cert.ReferenceIdeal.Exchange (table value run_value table_of_swap table_of_identity near_value)

/-- The reference's arguments and semaphores end as they began. -/
theorem frame_reference : Cert.quiescent_ReferenceIdeal := fun m g _ =>
  (θ_run _ _ _).mono (fun _ h => ⟨fun c => (h.1 c).2, h.2⟩) (run_value (F := Ideal) m g)

/-- Of an argument with no element larger than 6, the reference's result is close to the plain gather. -/
theorem near_reference : Cert.holds_ReferenceIdeal_near_gather_pre_within_range
    (hPre_within_range := Cert.Pre_within_range.Gen.facts) (hPost_near_gather := Cert.Post_near_gather.Gen.facts) := fun m g hpre =>
  (θ_run _ _ _).mono (fun _ h c => ⟨(h.1 c).2.1, (h.1 c).2.2, by rw [(h.1 c).1]; exact near_value _ _ (hpre c)⟩) (run_value (F := Ideal) m g)

/-- Where every device's table is one of the two, the kernel's results are the blocks of the reference's result. -/
theorem values (sw : Bool) (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (ht : ∀ c : Dev Cert.KernelIdeal.nD,
      m ((c.tc : Thread Cert.KernelIdeal.nD Cert.KernelIdeal.τ).loc Cert.KernelIdeal.main_arg1) = table sw)
    (hin : ∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hp : m' (((0 : Dev Cert.ReferenceIdeal.nD).tc : Thread Cert.ReferenceIdeal.nD Cert.ReferenceIdeal.τ).loc Cert.ReferenceIdeal.main_arg1) = table sw :=
    (hin 0).2.symm.trans (ht 0)
  refine ⟨value (F := Ideal) (m' (((0 : Dev Cert.ReferenceIdeal.nD).tc : Thread Cert.ReferenceIdeal.nD Cert.ReferenceIdeal.τ).loc Cert.ReferenceIdeal.main_arg0)) (table sw), ?_, ?_⟩
  · refine (θ_run _ _ _).mono (fun _ hr c => ⟨?_, (hr.1 c).2.1, (hr.1 c).2.2⟩)
      (Cert.KernelIdeal.Exchange.run_main (F := Ideal) m g sw (Cert.KernelIdeal.Exchange.table_read m sw ht))
    exact (hr.1 c).1.trans (Cert.KernelIdeal.Exchange.outAt_block m _ sw (fun d => (hin d).1) c)
  · refine (θ_run _ _ _).mono (fun _ hr => ⟨(hr.1 0).1.trans ?_, (hr.1 0).2⟩) (run_value (F := Ideal) m' g')
    rw [hp]

/-- Every claim of the certificate. -/
theorem claim : Cert.Claim := ⟨Cert.Kernel.Gen.facts, Cert.KernelIdeal.Gen.facts, Cert.ReferenceIdeal.Gen.facts, Cert.Pre_is_swap_Kernel.Gen.facts, Cert.Pre_is_identity_Kernel.Gen.facts, Cert.Pre_is_swap_ReferenceIdeal.Gen.facts, Cert.Pre_is_identity_ReferenceIdeal.Gen.facts, Cert.Pre_within_range.Gen.facts, Cert.Post_near_gather.Gen.facts,
  fun m g hpre => Cert.Kernel.Exchange.frame_main m g true fun c => table_of_swap _ _ (hpre c),
  fun m g hpre => Cert.Kernel.Exchange.frame_main m g false fun c => table_of_identity _ _ (hpre c),
  fun m g hpre => Cert.KernelIdeal.Exchange.frame_main m g true fun c => table_of_swap _ _ (hpre c),
  fun m g hpre => Cert.KernelIdeal.Exchange.frame_main m g false fun c => table_of_identity _ _ (hpre c),
  frame_reference,
  fun m g _ => frame_reference m g trivial,
  fun m g _ => frame_reference m g trivial,
  fun m g _ => frame_reference m g trivial,
  trivial,
  fun m g m' g' hpre hin => values true m g m' g' (fun c => table_of_swap _ _ (hpre c)) hin,
  fun m g m' g' hpre hin => values false m g m' g' (fun c => table_of_identity _ _ (hpre c)) hin,
  near_reference⟩

end Cert.Proof

end
